-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite_arguments : Cert.Pre_finite_arguments.Facts),
    quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8x1024x64 : Shape := ⟨3, ![8, 1024, 64]⟩
abbrev S4096x64 : Shape := ⟨2, ![4096, 64]⟩
abbrev S_ : Shape := ⟨0, ![]⟩

class Facts : Prop where
  bcast_S_S8x1024x64 : S_.BroadcastsInDim S8x1024x64 (![] : Fin 0 → Fin S8x1024x64.rank)
  reducesTo_S8x1024x64_S_d0_1_2 : S8x1024x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8x1024x64 .f32) (main_arg1 : FVec F S4096x64 .f32) : IVec S_ 1 :=
  let main_v0 : FVec F S8x1024x64 .f32 := Host.absf main_arg0
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  let main_c : IVec S_ 1 := constantI S_ 1 1#1
  let main_v3 : IVec S_ 1 := (fun x v => Host.reduce IntOp.andi x v reducesTo_S8x1024x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== KernelIdeal.lean ====
abbrev S8x1024x64 : Shape := ⟨3, ![8, 1024, 64]⟩
abbrev S4096x64 : Shape := ⟨2, ![4096, 64]⟩
abbrev S8192x64 : Shape := ⟨2, ![8192, 64]⟩
abbrev S_ : Shape := ⟨0, ![]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S64x4096 : Shape := ⟨2, ![64, 4096]⟩
abbrev S32x1x256 : Shape := ⟨3, ![32, 1, 256]⟩
abbrev S1x1 : Shape := ⟨2, ![1, 1]⟩
abbrev S256x64 : Shape := ⟨2, ![256, 64]⟩
abbrev S256x1 : Shape := ⟨2, ![256, 1]⟩
abbrev S1x1x256 : Shape := ⟨3, ![1, 1, 256]⟩
abbrev S256x4096 : Shape := ⟨2, ![256, 4096]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x1x4096 : Shape := ⟨3, ![1, 1, 4096]⟩
abbrev S4096x128 : Shape := ⟨2, ![4096, 128]⟩
abbrev S1x8192 : Shape := ⟨2, ![1, 8192]⟩
abbrev S8192x128 : Shape := ⟨2, ![8192, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S8x1024 : Shape := ⟨2, ![8, 1024]⟩

abbrev nBuf : Table → Nat
  | .hbm => 28
  | .local .tc .vmem => 13
  | .local .scVector .vmem => 2
  | _ => 0

abbrev bufTy : (tb : Table) → Fin (nBuf tb) → BufTy
  | .hbm, ⟨0, _⟩ => ⟨S8x1024x64, .f32⟩
  | .hbm, ⟨1, _⟩ => ⟨S4096x64, .f32⟩
  | .hbm, ⟨2, _⟩ => ⟨S8192x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S64x4096, .f32⟩
  | .hbm, ⟨12, _⟩ => ⟨S32x1x256, .i32⟩
  | .hbm, ⟨13, _⟩ => ⟨S1x1, .f32⟩
  | .hbm, ⟨14, _⟩ => ⟨S1x1, .f32⟩
  | .hbm, ⟨15, _⟩ => ⟨S8192, .i32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S1x8192, .i32⟩
  | .hbm, ⟨20, _⟩ => ⟨S8192x128, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8x1024x64, .f32⟩
  | .hbm, ⟨25, _⟩ => ⟨S8x1024, .i32⟩
  | .hbm, ⟨26, _⟩ => ⟨S_, .f32⟩
  | .hbm, ⟨27, _⟩ => ⟨S_, .f32⟩
  | .local .tc .vmem, ⟨0, _⟩ => ⟨S256x64, .f32⟩
  | .local .tc .vmem, ⟨1, _⟩ => ⟨S256x64, .f32⟩
  | .local .tc .vmem, ⟨2, _⟩ => ⟨S256x1, .f32⟩
  | .local .tc .vmem, ⟨3, _⟩ => ⟨S256x1, .f32⟩
  | .local .tc .vmem, ⟨4, _⟩ => ⟨S64x4096, .f32⟩
  | .local .tc .vmem, ⟨5, _⟩ => ⟨S1x4096, .f32⟩
  | .local .tc .vmem, ⟨6, _⟩ => ⟨S1x1x256, .i32⟩
  | .local .tc .vmem, ⟨7, _⟩ => ⟨S1x1x256, .i32⟩
  | .local .tc .vmem, ⟨8, _⟩ => ⟨S1x1, .f32⟩
  | .local .tc .vmem, ⟨9, _⟩ => ⟨S1x1, .f32⟩
  | .local .tc .vmem, ⟨10, _⟩ => ⟨S256x4096, .f32⟩
  | .local .tc .vmem, ⟨11, _⟩ => ⟨S1x4096, .f32⟩
  | .local .tc .vmem, ⟨12, _⟩ => ⟨S1x1, .f32⟩
  | .local .scVector .vmem, ⟨0, _⟩ => ⟨S2x1x128, .i32⟩
  | .local .scVector .vmem, ⟨1, _⟩ => ⟨S2x128x128, .f32⟩
  | _, _ => ⟨S8x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v10_scv : Ref sig .scVector := ⟨.hbm, 18, rfl⟩
abbrev main_v11_scv : Ref sig .scVector := ⟨.hbm, 19, rfl⟩
abbrev main_v12_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v57 : BitVec 1 := Scalar.cmpi .eq arg0 c31_i32
  let v58 : BitVec 32 := Scalar.extui v57
  let c0_i32_30 : BitVec 32 := 0#32
  let v59 : BitVec 1 := Scalar.cmpi .ne v58 c0_i32_30
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k1_off2 (i : grid1.Coords) : Fin 2 → Nat :=
  let c0_i32_18_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k1_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k1_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k1_off5 (i : grid1.Coords) (arg10_r0 : BitVec 32) : Fin 2 → Nat :=
  let c0_i32_105_r0 : BitVec 32 := 0#32
  let c128_i32_102_r0 : BitVec 32 := 128#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c128_i32_102_r0 v76_r0
  ![0, v145_r0.toNat]
def k1_off6 (arg6_r0 : BitVec 32) : Fin 1 → Nat :=
  let c2_i32_101_r0 : BitVec 32 := 2#32
  let v144_r0 : BitVec 32 := Scalar.remui arg6_r0 c2_i32_101_r0
  ![v144_r0.toNat]
def k1_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k1_off8 (i : grid1.Coords) (arg10_r0 : BitVec 32) : Fin 2 → Nat :=
  let c0_i32_105_r0 : BitVec 32 := 0#32
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c128_i32_101_r0 v66_r0
  ![0, v144_r0.toNat]
def k1_off9 (arg7_r0 : BitVec 32) : Fin 1 → Nat :=
  let c2_i32_102_r0 : BitVec 32 := 2#32
  let v145_r0 : BitVec 32 := Scalar.remui arg7_r0 c2_i32_102_r0
  ![v145_r0.toNat]
def k1_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k1_off13 (i : grid1.Coords) (arg10_r0 : BitVec 32) : Fin 2 → Nat :=
  let c128_i32_102_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c128_i32_102_r0 v66_r0
  let c0_i32_105_r0 : BitVec 32 := 0#32
  ![v145_r0.toNat, 0]
def k1_off14 (arg8_r0 : BitVec 32) : Fin 1 → Nat :=
  let c2_i32_101_r0 : BitVec 32 := 2#32
  let v144_r0 : BitVec 32 := Scalar.remui arg8_r0 c2_i32_101_r0
  ![v144_r0.toNat]
def k1_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k1_off16 (i : grid1.Coords) (arg10_r0 : BitVec 32) : Fin 2 → Nat :=
  let c128_i32_102_r0 : BitVec 32 := 128#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c128_i32_102_r0 v71_r0
  let c0_i32_105_r0 : BitVec 32 := 0#32
  ![v145_r0.toNat, 0]
def k1_off17 (arg9_r0 : BitVec 32) : Fin 1 → Nat :=
  let c2_i32_101_r0 : BitVec 32 := 2#32
  let v144_r0 : BitVec 32 := Scalar.remui arg9_r0 c2_i32_101_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x8192.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x8192.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S8192x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S8192x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x8192.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x8192.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S8192x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S8192x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k1_off19 (i : grid1.Coords) (v33_4_r0 : BitVec 32) : Fin 2 → Nat :=
  let c128_i32_49_r0 : BitVec 32 := 128#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c128_i32_49_r0 v38_r0
  let c0_i32_52_r0 : BitVec 32 := 0#32
  ![v55_r0.toNat, 0]

def k1_chk5 (i : grid1.Coords) (v33_4_r0 : BitVec 32) : Prop :=
  (∀ a, (k1_off19 i v33_4_r0) a + S128x128.size a ≤ S8192x128.size a)
theorem k1_off19_inb : ∀ (i : grid1.Coords) (v33_4_r0 : BitVec 32) (k1_hw5 : k1_chk5 i v33_4_r0), ∀ a, (k1_off19 i v33_4_r0) a + S128x128.size a ≤ S8192x128.size a := fun i v33_4_r0 k1_hw5 => k1_hw5

def k1_off20 (v33_3_r0 : BitVec 32) : Fin 1 → Nat :=
  let c2_i32_48_r0 : BitVec 32 := 2#32
  let v54_r0 : BitVec 32 := Scalar.remui v33_3_r0 c2_i32_48_r0
  ![v54_r0.toNat]
def k1_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x64 : Shape := ⟨3, ![8, 1024, 64]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S64x4096 : Shape := ⟨2, ![64, 4096]⟩
abbrev S8192x4096 : Shape := ⟨2, ![8192, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S4096x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x64, .f32⟩
  | .hbm, ⟨9, _⟩ => ⟨S8192x64, .f32⟩
  | .hbm, ⟨10, _⟩ => ⟨S64x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S4096x64, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .i32⟩
  | .hbm, ⟨21, _⟩ => ⟨S_, .f32⟩
  | .hbm, ⟨22, _⟩ => ⟨S_, .i32⟩
  | .hbm, ⟨23, _⟩ => ⟨S8192, .f32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S1, .i32⟩
  | .hbm, ⟨34, _⟩ => ⟨S_, .i32⟩
  | .hbm, ⟨35, _⟩ => ⟨S8192x1, .i32⟩
  | .hbm, ⟨36, _⟩ => ⟨S8192x1, .i1⟩
  | .hbm, ⟨37, _⟩ => ⟨S1x1, .i32⟩
  | .hbm, ⟨38, _⟩ => ⟨S8192x1, .i32⟩
  | .hbm, ⟨39, _⟩ => ⟨S8192x1, .i1⟩
  | .hbm, ⟨40, _⟩ => ⟨S8192x1, .i1⟩
  | .hbm, ⟨41, _⟩ => ⟨S_, .i1⟩
  | .hbm, ⟨42, _⟩ => ⟨S8192, .i1⟩
  | .hbm, ⟨43, _⟩ => ⟨S8192x64, .f32⟩
  | .hbm, ⟨44, _⟩ => ⟨S8192x64, .i1⟩
  | .hbm, ⟨45, _⟩ => ⟨S_, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x64, .f32⟩
  | .hbm, ⟨55, _⟩ => ⟨S8192x64, .f32⟩
  | .hbm, ⟨56, _⟩ => ⟨S_, .f32⟩
  | .hbm, ⟨57, _⟩ => ⟨S4096, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S_, .f32⟩
  | .hbm, ⟨67, _⟩ => ⟨S8192, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S8x1024x64, .f32⟩
  | .hbm, ⟨82, _⟩ => ⟨S8x1024, .i32⟩
  | .hbm, ⟨83, _⟩ => ⟨S_, .f32⟩
  | .hbm, ⟨84, _⟩ => ⟨S_, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_c : Ref sig .tc := ⟨.hbm, 58, rfl⟩
abbrev main_v24 : Ref sig .tc := ⟨.hbm, 59, rfl⟩
abbrev main_v25 : Ref sig .tc := ⟨.hbm, 60, rfl⟩
abbrev main_c_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_v33 : Ref sig .tc := ⟨.hbm, 71, rfl⟩
abbrev main_cst_8 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_9 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_10 : Ref sig .tc := ⟨.hbm, 83, rfl⟩
abbrev main_v43 : Ref sig .tc := ⟨.hbm, 84, rfl⟩

abbrev nD : Nat := 1
abbrev τ : Topo := Topo.v7x

variable {F : FTy → Type} [FloatOps F]
-- ==== Proof.Setup.lean ====
/-
  What the proof's parts share: the program as the launch theorem sees it, the ghost state (the handshakes' rounds, the
  pipeline's rounds, the transfers' counters), the arrays as locations, and the memrefs the gather kernel's tiles name —
  the two index slots and two row slots of a tile's own memory, the two 128-index blocks a tile reads and the two
  128-row blocks it writes — with the offsets the program computes for them at the words its loop carries.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ViewIndex
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

/-- The kernels' labels, lifted through the TensorCore pipeline. -/
abbrev ΛP : Labels := Pipeline.Sig Λ₀ (Fin 1) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the pipeline's rounds, and both with the transfers' counters. -/
abbrev UH : Type := URounds (GSem nD τ sig) ℕ
abbrev UK : Type := URounds (GSem nD τ sig) Unit
abbrev UU : Type := UH × (UK × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance

/-! ## The gather call's arrays -/

/-- The padded table, the index list and the gathered rows, as locations of device `d`. -/
abbrev xLoc (d : Dev nD) : Loc nD τ sig := (SparseCore.T d).loc main_v10
abbrev iLoc (d : Dev nD) : Loc nD τ sig := (SparseCore.T d).loc main_v11
abbrev oLoc (d : Dev nD) : Loc nD τ sig := (SparseCore.T d).loc main_v12

/-- The same arrays, and a tile's two scratch buffers, as a tile names them. -/
abbrev xV : Memref sig .scVector .hbm S4096x128 .f32 := Memref.whole main_v10_scv
abbrev iV : Memref sig .scVector .hbm S1x8192 .i32 := Memref.whole main_v11_scv
abbrev oV : Memref sig .scVector .hbm S8192x128 .f32 := Memref.whole main_v12_scv
abbrev sV : Memref sig .scVector .vmem S2x1x128 .i32 := Memref.whole cc1_scoped0
abbrev rV : Memref sig .scVector .vmem S2x128x128 .f32 := Memref.whole cc1_scoped2

/-! ## A tile's blocks and slots -/

/-- The block of 128 rows that tile `L` serves on its trip `t`. -/
abbrev blk (L : grid1.Coords) (t : Fin 2) : ℕ := 2 * ((L 1).val + 16 * (L 0).val) + t.val

theorem blk_lt (L : grid1.Coords) (t : Fin 2) : blk L t < 64 := by
  have h0 : (L 0).val < 2 := (L 0).isLt
  have h1 : (L 1).val < 16 := (L 1).isLt
  have := t.isLt
  unfold blk; omega

theorem iBlk_inb (n : ℕ) (h : n < 64) : ∀ a, (![0, 128 * n] : Fin 2 → ℕ) a + S1x128.size a ≤ S1x8192.size a := by
  intro a; fin_cases a
  · show 0 + 1 ≤ 1; omega
  · show 128 * n + 128 ≤ 8192; omega
theorem oBlk_inb (n : ℕ) (h : n < 64) : ∀ a, (![128 * n, 0] : Fin 2 → ℕ) a + S128x128.size a ≤ S8192x128.size a := by
  intro a; fin_cases a
  · show 128 * n + 128 ≤ 8192; omega
  · show 0 + 128 ≤ 128; omega
theorem sSlot_inb (b : Fin 2) : ∀ a, (![b.val, 0, 0] : Fin 3 → ℕ) a + S1x1x128.size a ≤ S2x1x128.size a := by
  intro a; fin_cases a
  · show b.val + 1 ≤ 2; omega
  · show 0 + 1 ≤ 1; omega
  · show 0 + 128 ≤ 128; omega
theorem rSlot_inb (b : Fin 2) : ∀ a, (![b.val, 0, 0] : Fin 3 → ℕ) a + S1x128x128.size a ≤ S2x128x128.size a := by
  intro a; fin_cases a
  · show b.val + 1 ≤ 2; omega
  · show 0 + 128 ≤ 128; omega
  · show 0 + 128 ≤ 128; omega
theorem sem_inb (b : Fin 2) : ∀ a, (![b.val] : Fin 1 → ℕ) a + S1.size a ≤ S2.size a := by
  intro a; fin_cases a
  show b.val + 1 ≤ 2; omega

/-- Block `n` of the index list and of the gathered rows. -/
def iRect (n : ℕ) (h : n < 64) : Rect S1x8192 := Rect.unit (s := S1x8192) ![0, 128 * n] S1x128.size (iBlk_inb n h)
def oRect (n : ℕ) (h : n < 64) : Rect S8192x128 := Rect.unit (s := S8192x128) ![128 * n, 0] S128x128.size (oBlk_inb n h)
abbrev iBlk (L : grid1.Coords) (t : Fin 2) : Memref sig .scVector .hbm S1x128 .i32 :=
  iV.slice (Rect.unit (s := S1x8192) ![0, 128 * blk L t] S1x128.size (iBlk_inb _ (blk_lt L t))) (fun _ => rfl)
abbrev oBlk (L : grid1.Coords) (t : Fin 2) : Memref sig .scVector .hbm S128x128 .f32 :=
  oV.slice (Rect.unit (s := S8192x128) ![128 * blk L t, 0] S128x128.size (oBlk_inb _ (blk_lt L t))) (fun _ => rfl)
/-- Index slot `b`, the same slot as the flat list a gather reads, and row slot `b`. -/
abbrev sSlot (b : Fin 2) : Memref sig .scVector .vmem S1x128 .i32 :=
  (sV.slice (Rect.unit (s := S2x1x128) ![b.val, 0, 0] S1x1x128.size (sSlot_inb b)) (fun _ => rfl)).squeeze S1x128 squeezes_S1x1x128_S1x128
abbrev sList (b : Fin 2) : Memref sig .scVector .vmem S128 .i32 :=
  ((sSlot b).slice (Rect.unit (s := S1x128) ![0, 0] S1x128.size inb_S1x128_S1x128_0_0) (fun _ => rfl)).squeeze S128 squeezes_S1x128_S128
abbrev rSlot (b : Fin 2) : Memref sig .scVector .vmem S128x128 .f32 :=
  (rV.slice (Rect.unit (s := S2x128x128) ![b.val, 0, 0] S1x128x128.size (rSlot_inb b)) (fun _ => rfl)).squeeze S128x128 squeezes_S1x128x128_S128x128
/-- All of the table, as a gather names it. -/
abbrev xAll : Memref sig .scVector .hbm S4096x128 .f32 :=
  xV.slice (Rect.unit (s := S4096x128) ![0, 0] S4096x128.size inb_S4096x128_S4096x128_0_0) (fun _ => rfl)
/-- The semaphore of index slot `b`, of row slot `b`, and the gather's. -/
abbrev inSem (b : Fin 2) : DmaSem sig :=
  ((cc1_scoped1.slice (Rect.unit (s := S2) ![b.val] S1.size (sem_inb b))).squeeze S_ squeezes_S1_S_).sem
abbrev outSem (b : Fin 2) : DmaSem sig :=
  ((cc1_scoped3.slice (Rect.unit (s := S2) ![b.val] S1.size (sem_inb b))).squeeze S_ squeezes_S1_S_).sem
abbrev gSem : DmaSem sig := cc1_scoped4.sem

/-! ## The program's slices are these -/

theorem iBlk_of (L : grid1.Coords) (t : Fin 2) {off : Fin 2 → ℕ} (h : off = ![0, 128 * blk L t])
    (inb : ∀ a, off a + S1x128.size a ≤ S1x8192.size a) :
    iV.slice (Rect.unit (s := S1x8192) off S1x128.size inb) (fun _ => rfl) = iBlk L t := by subst h; rfl
theorem oBlk_of (L : grid1.Coords) (t : Fin 2) {off : Fin 2 → ℕ} (h : off = ![128 * blk L t, 0])
    (inb : ∀ a, off a + S128x128.size a ≤ S8192x128.size a) :
    oV.slice (Rect.unit (s := S8192x128) off S128x128.size inb) (fun _ => rfl) = oBlk L t := by subst h; rfl
theorem sSlot_of (b : Fin 2) {off : Fin 3 → ℕ} (h : off = ![b.val, 0, 0]) (inb : ∀ a, off a + S1x1x128.size a ≤ S2x1x128.size a) :
    (sV.slice (Rect.unit (s := S2x1x128) off S1x1x128.size inb) (fun _ => rfl)).squeeze S1x128 squeezes_S1x1x128_S1x128 = sSlot b := by
  subst h; rfl
theorem rSlot_of (b : Fin 2) {off : Fin 3 → ℕ} (h : off = ![b.val, 0, 0]) (inb : ∀ a, off a + S1x128x128.size a ≤ S2x128x128.size a) :
    (rV.slice (Rect.unit (s := S2x128x128) off S1x128x128.size inb) (fun _ => rfl)).squeeze S128x128 squeezes_S1x128x128_S128x128 = rSlot b := by
  subst h; rfl
theorem inSem_of (b : Fin 2) {off : Fin 1 → ℕ} (h : off = ![b.val]) (inb : ∀ a, off a + S1.size a ≤ S2.size a) :
    ((cc1_scoped1.slice (Rect.unit (s := S2) off S1.size inb)).squeeze S_ squeezes_S1_S_).sem = inSem b := by subst h; rfl
theorem outSem_of (b : Fin 2) {off : Fin 1 → ℕ} (h : off = ![b.val]) (inb : ∀ a, off a + S1.size a ≤ S2.size a) :
    ((cc1_scoped3.slice (Rect.unit (s := S2) off S1.size inb)).squeeze S_ squeezes_S1_S_).sem = outSem b := by subst h; rfl

theorem trips_eq : k1_t1_loop.trips = 2 := by decide +kernel
abbrev t0 : Fin k1_t1_loop.trips := ⟨0, by rw [trips_eq]; omega⟩
abbrev t1 : Fin k1_t1_loop.trips := ⟨1, by rw [trips_eq]; omega⟩

-- the prologue's fetch
theorem off1_at : k1_off1 = ![(0 : Fin 2).val, 0, 0] := by decide +kernel
theorem off2_at : ∀ L : grid1.Coords, k1_off2 L = ![0, 128 * blk L 0] := by decide +kernel
theorem off3_at : k1_off3 = ![(0 : Fin 2).val] := by decide +kernel
-- trip 0's prefetch of block 1
theorem off4_at : k1_off4 1#32 = ![(1 : Fin 2).val, 0, 0] := by decide +kernel
theorem off5_at : ∀ L : grid1.Coords, k1_off5 L 0#32 = ![0, 128 * blk L 1] := by decide +kernel
theorem off6_at : k1_off6 1#32 = ![(1 : Fin 2).val] := by decide +kernel
-- the waits for the index blocks
theorem off7_at0 : k1_off7 0#32 = ![(0 : Fin 2).val, 0, 0] := by decide +kernel
theorem off7_at1 : k1_off7 1#32 = ![(1 : Fin 2).val, 0, 0] := by decide +kernel
theorem off8_at0 : ∀ L : grid1.Coords, k1_off8 L 0#32 = ![0, 128 * blk L 0] := by decide +kernel
theorem off8_at1 : ∀ L : grid1.Coords, k1_off8 L 1#32 = ![0, 128 * blk L 1] := by decide +kernel
theorem off9_at0 : k1_off9 0#32 = ![(0 : Fin 2).val] := by decide +kernel
theorem off9_at1 : k1_off9 1#32 = ![(1 : Fin 2).val] := by decide +kernel
-- the gathers
theorem off10_at0 : k1_off10 0#32 = ![(0 : Fin 2).val, 0, 0] := by decide +kernel
theorem off10_at1 : k1_off10 1#32 = ![(1 : Fin 2).val, 0, 0] := by decide +kernel
theorem off11_at0 : k1_off11 0#32 = ![(0 : Fin 2).val, 0, 0] := by decide +kernel
theorem off11_at1 : k1_off11 1#32 = ![(1 : Fin 2).val, 0, 0] := by decide +kernel
-- the write-outs
theorem off12_at0 : k1_off12 0#32 = ![(0 : Fin 2).val, 0, 0] := by decide +kernel
theorem off12_at1 : k1_off12 1#32 = ![(1 : Fin 2).val, 0, 0] := by decide +kernel
theorem off13_at0 : ∀ L : grid1.Coords, k1_off13 L 0#32 = ![128 * blk L 0, 0] := by decide +kernel
theorem off13_at1 : ∀ L : grid1.Coords, k1_off13 L 1#32 = ![128 * blk L 1, 0] := by decide +kernel
theorem off14_at0 : k1_off14 0#32 = ![(0 : Fin 2).val] := by decide +kernel
theorem off14_at1 : k1_off14 1#32 = ![(1 : Fin 2).val] := by decide +kernel
-- trip 1's wait for the first write-out
theorem off15_at : k1_off15 0#32 = ![(0 : Fin 2).val, 0, 0] := by decide +kernel
theorem off16_at : ∀ L : grid1.Coords, k1_off16 L 1#32 = ![128 * blk L 0, 0] := by decide +kernel
theorem off17_at : k1_off17 0#32 = ![(0 : Fin 2).val] := by decide +kernel
-- the last wait
theorem off19_at : ∀ L : grid1.Coords, k1_off19 L 0#32 = ![128 * blk L 1, 0] := by decide +kernel
theorem off20_at : k1_off20 1#32 = ![(1 : Fin 2).val] := by decide +kernel
theorem off21_at : k1_off21 1#32 = ![(1 : Fin 2).val, 0, 0] := by decide +kernel

/-- The side conditions the program assumes hold at the words the loop carries. -/
theorem chk3_0 : k1_chk3 0#32 := by decide +kernel
theorem chk3_1 : k1_chk3 1#32 := by decide +kernel
theorem chk2_0 : k1_chk2 0#32 := by decide +kernel
theorem chk2_1 : k1_chk2 1#32 := by decide +kernel
theorem chk1_0 : ∀ L : grid1.Coords, k1_chk1 L t0 1#32 0#32 0#32 0#32 0#32 := by decide +kernel
theorem chk1_1 : ∀ L : grid1.Coords, k1_chk1 L t1 2#32 1#32 1#32 0#32 1#32 := by decide +kernel
theorem chk5_at : ∀ L : grid1.Coords, k1_chk5 L 0#32 := by decide +kernel
theorem chk4_at : k1_chk4 1#32 := by decide +kernel

/-- Which of a trip's steps happen: the prefetch on trip 0 only, the wait for a write-out on trip 1 only. -/
theorem cond1_0 : ∀ L : grid1.Coords, k1_cond1 L t0 0#32 = 1#1 := by decide +kernel
theorem cond1_1 : ∀ L : grid1.Coords, ¬k1_cond1 L t1 1#32 = 1#1 := by decide +kernel
theorem cond2_0 : ∀ L : grid1.Coords, k1_cond2 L t0 0#32 = 1#1 := by decide +kernel
theorem cond2_1 : ∀ L : grid1.Coords, k1_cond2 L t1 1#32 = 1#1 := by decide +kernel
theorem cond5_0 : ∀ L : grid1.Coords, k1_cond5 L t0 0#32 = 1#1 := by decide +kernel
theorem cond5_1 : ∀ L : grid1.Coords, k1_cond5 L t1 1#32 = 1#1 := by decide +kernel
theorem cond7_0 : ∀ L : grid1.Coords, ¬k1_cond7 L t0 0#32 = 1#1 := by decide +kernel
theorem cond7_1 : ∀ L : grid1.Coords, k1_cond7 L t1 1#32 = 1#1 := by decide +kernel

/-! ## What the tiles write -/

section Out

variable (A : FVec F S4096x128 .f32) (B : IVec S1x8192 32)

/-- The gather's result: row `j 0` is the table's row at index `j 0` of the list (row 0 for an index out of the table). -/
def gath : FVec F S8192x128 .f32 := fun j =>
  A (ix2 (Fin.ofNat 4096 (B (ix2 (0 : Fin 1) (j 0 : Fin 8192))).toNat) (j 1 : Fin 128))

end Out

end Cert.Proof

end
-- ==== Proof.Body.lean ====
/-
  The TensorCore call's body at one grid point, run by hand: from the ten buffers held whole at contents,
  the body leaves the four inputs as they were, the block's chosen indices, the running counts and the
  running sum one block further, and at the last point the two scalars.
-/
module

public import proofs.«01_k».proof.Proof.Setup
public import proofs.«01_k».proof.Proof.Gen.KernelIdeal.Skeleton
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [∀ e, Nonempty (Elt F e)]

local notation "𝕄" => MT nD τ sig (HIx 1) (Elt F) ℕ UU ℕ

/-- A buffer of the TensorCore held whole at what it reads. -/
abbrev own (c : Dev nD) {S : Shape} {e : EltTy} (m : Memref sig .tc .vmem S e) (X : S.Idx → Elt F e) : sProp 𝕄 :=
  owns (c.tc : Thread nD τ) m fullShare X

/-- A whole load of a held buffer continues at its contents. -/
theorem own_load (c : Dev nD) {S : Shape} {e : EltTy} {m : Memref sig .tc .vmem S e} {X : S.Idx → Elt F e}
    {off : Fin S.rank → ℕ} {inb : ∀ a, off a + S.size a ≤ S.size a} (h0 : off = fun _ => 0)
    {hl : m.view.LoadsAt (Rect.unit (s := S) off S.size inb).toLoadRect} {α : Type}
    {k : (S.Idx → Elt F e) → Prog (TpuEff nD τ sig (Elt F) Λ₀ .tc) α} {Q : α → sProp 𝕄} :
    own c m X ⊢ iprop((own c m X -∗ wp frame (wpE (defs₀ (F := F)) 𝒱₀ (c.tc : Thread nD τ) none) Set.univ (k X) Q)
      -∗ wp frame (wpE (defs₀ (F := F)) 𝒱₀ (c.tc : Thread nD τ) none) Set.univ (.op (.load m (Rect.unit (s := S) off S.size inb).toLoadRect hl) k) Q) := by
  unfold own owns
  iintro ⟨%f, %hf, H⟩ Hk
  have hr : m.view.readAt (Elt F) (Rect.unit (s := S) off S.size inb).toLoadRect f = X := by
    rw [View.readAt_eq_ld, hf]; exact View.ld_unit_zero h0 inb X
  iapply (wp_load 𝒱₀ (c.tc : Thread nD τ) none Set.univ (m := m) (r := (Rect.unit (s := S) off S.size inb).toLoadRect) (hl := hl)
    (S := m.view.set) (q := fullShare) (f := f) (k := k) (View.setOn_subset_set _ _)) $$ H
  iintro H
  rw [hr]
  iapply Hk
  iexists f; isplitr
  · ipureintro; exact hf
  · iexact H

/-- A whole store into a held buffer leaves it at what was stored. -/
theorem own_store (c : Dev nD) {S : Shape} {e : EltTy} {m : Memref sig .tc .vmem S e} {X w : S.Idx → Elt F e}
    {off : Fin S.rank → ℕ} {inb : ∀ a, off a + S.size a ≤ S.size a} (h0 : off = fun _ => 0)
    {hx : (m.access (Rect.unit (s := S) off S.size inb)).Stores Finset.univ}
    {hm : (Finset.univ : Finset (Rect.unit (s := S) off S.size inb).shape.Idx) = Finset.univ ∨ ∀ a, (Rect.unit (s := S) off S.size inb).stride a = 1} {α : Type}
    {k : PUnit → Prog (TpuEff nD τ sig (Elt F) Λ₀ .tc) α} {Q : α → sProp 𝕄} :
    own c m X ⊢ iprop((own c m w -∗ wp frame (wpE (defs₀ (F := F)) 𝒱₀ (c.tc : Thread nD τ) none) Set.univ (k ⟨⟩) Q)
      -∗ wp frame (wpE (defs₀ (F := F)) 𝒱₀ (c.tc : Thread nD τ) none) Set.univ (.op (.store m (Rect.unit (s := S) off S.size inb) w Finset.univ hx hm) k) Q) := by
  unfold own owns
  iintro ⟨%f, %hf, H⟩ Hk
  have hr : m.view.read (Elt F) ((m.access (Rect.unit (s := S) off S.size inb)).write (Elt F) f w Finset.univ) = w := by
    have h := View.read_writes_eq_canon m.view f [⟨Rect.unit (s := S) off S.size inb, w⟩]
      (fun y => ⟨_, List.mem_singleton.mpr rfl, View.mem_set_unit_zero h0 inb y⟩)
    exact h.trans (View.canon_unit_zero h0 inb w)
  iapply (wp_store 𝒱₀ (c.tc : Thread nD τ) none Set.univ (m := m) (r := Rect.unit (s := S) off S.size inb) (w := w) (hx := hx) (hm := hm)
    (S := m.view.set) (f := f) (k := k) (by
      rw [show (m.access (Rect.unit (s := S) off S.size inb)).setOn Finset.univ = (m.access (Rect.unit (s := S) off S.size inb)).set from rfl, View.set_slice]
      exact View.setOn_subset_set _ _)) $$ H
  iintro H
  iapply Hk
  iexists _; isplitr
  · ipureintro; exact hr
  · iexact H

theorem z2 : (![0, 0] : Fin 2 → ℕ) = fun _ => 0 := by decide
theorem z3 : (![0, 0, 0] : Fin 3 → ℕ) = fun _ => 0 := by decide

/-- Column numbers of a block of distances. -/
abbrev cols : IVec S256x4096 32 := iota .tc S256x4096 32 [1] iota_S256x4096_d1_w32

/-- Whether a grid point is the first, as the body computes it. -/
abbrev first (i : grid0.Coords) : BitVec 1 := Scalar.cmpi .ne (Scalar.extui (Scalar.cmpi .eq (BitVec.ofNat 32 (i 0).val) 0#32)) 0#32

/-- The counts the block adds to: zero at the first point. -/
abbrev cntIn (i : grid0.Coords) (C : S1x4096.Idx → Elt F .f32) : S1x4096.Idx → Elt F .f32 := if first i = 1#1 then k0_pay5 else C
/-- The sum the block adds to: zero at the first point. -/
abbrev sumIn (i : grid0.Coords) (A : S1x1.Idx → Elt F .f32) : S1x1.Idx → Elt F .f32 := if first i = 1#1 then k0_pay6 else A

variable (c : Dev nD) (i : grid0.Coords)
  (m1 : Memref sig .tc .vmem S256x64 .f32) (h1 : m1.IsWhole) (m2 : Memref sig .tc .vmem S256x1 .f32) (h2 : m2.IsWhole)
  (m3 : Memref sig .tc .vmem S64x4096 .f32) (h3 : m3.IsWhole) (m4 : Memref sig .tc .vmem S1x4096 .f32) (h4 : m4.IsWhole)
  (m5 : Memref sig .tc .vmem S1x1x256 .i32) (h5 : m5.IsWhole) (m6 : Memref sig .tc .vmem S1x1 .f32) (h6 : m6.IsWhole)
  (m7 : Memref sig .tc .vmem S1x1 .f32) (h7 : m7.IsWhole) (m8 : Memref sig .tc .vmem S256x4096 .f32) (h8 : m8.IsWhole)
  (m9 : Memref sig .tc .vmem S1x4096 .f32) (h9 : m9.IsWhole) (m10 : Memref sig .tc .vmem S1x1 .f32) (h10 : m10.IsWhole)
  (X1 : S256x64.Idx → Elt F .f32) (X2 : S256x1.Idx → Elt F .f32) (X3 : S64x4096.Idx → Elt F .f32) (X4 : S1x4096.Idx → Elt F .f32)
  (X5 : S1x1x256.Idx → Elt F .i32) (X6 X7 : S1x1.Idx → Elt F .f32) (X8 : S256x4096.Idx → Elt F .f32)
  (C : S1x4096.Idx → Elt F .f32) (A : S1x1.Idx → Elt F .f32)

/-- The first part of the body: distances, the chosen columns, their minima. -/
theorem part1_run (Q : (Σ' (_ : BitVec 32) (_ : FVec F S256x1 .f32) (_ : IVec S256x4096 32), IVec S256 32) → sProp 𝕄) :
    iprop(own c m1 X1 ∗ own c m2 X2 ∗ own c m3 X3 ∗ own c m4 X4 ∗ own c m5 X5 ∗ own c m8 X8 ∗ own c m9 C ∗ own c m10 A
      ∗ (iprop(own c m1 X1 ∗ own c m2 X2 ∗ own c m3 X3 ∗ own c m4 X4 ∗ own c m5 (k0_pay10 (k0_pay7 X1 X3 X2 X4))
          ∗ own c m8 (k0_pay7 X1 X3 X2 X4) ∗ own c m9 (cntIn i C) ∗ own c m10 (sumIn i A))
        -∗ Q ⟨BitVec.ofNat 32 (i 0).val, k0_pay8 (k0_pay7 X1 X3 X2 X4), cols, k0_pay9 (k0_pay7 X1 X3 X2 X4)⟩))
      ⊢ wp frame (wpE (defs₀ (F := F)) 𝒱₀ (c.tc : Thread nD τ) none) Set.univ
          (k0_part1 i m1 h1 m2 h2 m3 h3 m4 h4 m5 h5 m6 h6 m7 h7 m8 h8 m9 h9 m10 h10) Q := by
  rw [k0_part1_eq_skeleton]
  unfold k0_part1_skel
  simp only [Prog.bind_lift]
  by_cases hf : first i = 1#1
  · unfold cntIn sumIn
    rw [dif_pos hf, if_pos hf, if_pos hf]
    iintro ⟨H1, H2, H3, H4, H5, H8, H9, H10, Hk⟩
    iapply (own_load c z2) $$ H9; iintro H9
    iapply (own_store c z2) $$ H9; iintro H9
    iapply (own_load c z2) $$ H10; iintro H10
    iapply (own_store c z2) $$ H10; iintro H10
    iapply (own_load c z2) $$ H1; iintro H1
    iapply (own_load c z2) $$ H3; iintro H3
    iapply (own_load c z2) $$ H2; iintro H2
    iapply (own_load c z2) $$ H4; iintro H4
    iapply (own_load c z2) $$ H8; iintro H8
    iapply (own_store c z2) $$ H8; iintro H8
    iapply (own_load c z2) $$ H8; iintro H8
    iapply (own_load c z3) $$ H5; iintro H5
    iapply (own_store c z3) $$ H5; iintro H5
    rw [Prog.pure_eq_ret, wp_ret]
    imodintro
    iapply Hk
    isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  · unfold cntIn sumIn
    rw [dif_neg hf, if_neg hf, if_neg hf]
    iintro ⟨H1, H2, H3, H4, H5, H8, H9, H10, Hk⟩
    iapply (own_load c z2) $$ H1; iintro H1
    iapply (own_load c z2) $$ H3; iintro H3
    iapply (own_load c z2) $$ H2; iintro H2
    iapply (own_load c z2) $$ H4; iintro H4
    iapply (own_load c z2) $$ H8; iintro H8
    iapply (own_store c z2) $$ H8; iintro H8
    iapply (own_load c z2) $$ H8; iintro H8
    iapply (own_load c z3) $$ H5; iintro H5
    iapply (own_store c z3) $$ H5; iintro H5
    rw [Prog.pure_eq_ret, wp_ret]
    imodintro
    iapply Hk
    isplitl [H1]; · iexact H1
    isplitl [H2]; · iexact H2
    isplitl [H3]; · iexact H3
    isplitl [H4]; · iexact H4
    isplitl [H5]; · iexact H5
    isplitl [H8]; · iexact H8
    isplitl [H9]; · iexact H9
    iexact H10

/-- What a point leaves of the counts. -/
abbrev cntOut : S1x4096.Idx → Elt F .f32 := k0_pay1 cols (k0_pay9 (k0_pay7 X1 X3 X2 X4)) (cntIn i C)
/-- What a point leaves of the sum. -/
abbrev sumOut : S1x1.Idx → Elt F .f32 := k0_pay2 (k0_pay8 (k0_pay7 X1 X3 X2 X4)) (sumIn i A)

/-- The body at one grid point. -/
theorem body_run (Q : PUnit → sProp 𝕄) :
    iprop(own c m1 X1 ∗ own c m2 X2 ∗ own c m3 X3 ∗ own c m4 X4 ∗ own c m5 X5 ∗ own c m6 X6 ∗ own c m7 X7
      ∗ own c m8 X8 ∗ own c m9 C ∗ own c m10 A
      ∗ (iprop(own c m1 X1 ∗ own c m2 X2 ∗ own c m3 X3 ∗ own c m4 X4 ∗ own c m5 (k0_pay10 (k0_pay7 X1 X3 X2 X4))
          ∗ own c m6 (if k0_cond2 i = 1#1 then k0_pay3 (sumOut i X1 X2 X3 X4 A) else X6)
          ∗ own c m7 (if k0_cond2 i = 1#1 then k0_pay4 (cntOut i X1 X2 X3 X4 C) else X7)
          ∗ own c m8 (k0_pay7 X1 X3 X2 X4) ∗ own c m9 (cntOut i X1 X2 X3 X4 C) ∗ own c m10 (sumOut i X1 X2 X3 X4 A))
        -∗ Q ⟨⟩))
      ⊢ wp frame (wpE (defs₀ (F := F)) 𝒱₀ (c.tc : Thread nD τ) none) Set.univ
          (cc0_body i m1 h1 m2 h2 m3 h3 m4 h4 m5 h5 m6 h6 m7 h7 m8 h8 m9 h9 m10 h10) Q := by
  rw [cc0_body_eq_skeleton]
  unfold cc0_body_skel
  rw [wp_bind]
  iintro ⟨H1, H2, H3, H4, H5, H6, H7, H8, H9, H10, Hk⟩
  iapply (part1_run c i m1 h1 m2 h2 m3 h3 m4 h4 m5 h5 m6 h6 m7 h7 m8 h8 m9 h9 m10 h10 X1 X2 X3 X4 X5 X8 C A _)
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H10]; · iexact H10
  iintro ⟨H1, H2, H3, H4, H5, H8, H9, H10⟩
  simp only [Prog.bind_lift]
  iapply (own_load c z2) $$ H9; iintro H9
  iapply (own_load c z2) $$ H9; iintro H9
  iapply (own_store c z2) $$ H9; iintro H9
  iapply (own_load c z2) $$ H10; iintro H10
  iapply (own_load c z2) $$ H10; iintro H10
  iapply (own_store c z2) $$ H10; iintro H10
  by_cases hl : k0_cond2 i = 1#1
  · rw [dif_pos hl, if_pos hl, if_pos hl]
    iapply (own_load c z2) $$ H10; iintro H10
    iapply (own_load c z2) $$ H6; iintro H6
    iapply (own_store c z2) $$ H6; iintro H6
    iapply (own_load c z2) $$ H9; iintro H9
    iapply (own_load c z2) $$ H7; iintro H7
    iapply (own_store c z2) $$ H7; iintro H7
    rw [Prog.pure_eq_ret, wp_ret]
    imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg hl, if_neg hl, if_neg hl]
    rw [Prog.pure_eq_ret, wp_ret]
    imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof

end
-- ==== Proof.Region.lean ====
/-
  The TensorCore call as a pipeline: what each point finds and leaves, and the body's obligation.

  The grid has 32 points, one per block of 256 rows.  A point finds the block's rows of `z`, their squared
  lengths, the whole transposed table and its squared lengths; it leaves the block's chosen indices.  The
  counts and the running sum live in scratch from point to point; the last point stores the two scalars.
-/
module

public import proofs.«01_k».proof.Proof.Body
public import proofs.«01_k».proof.Proof.Gen.KernelIdeal.Points
public import proofs.«01_k».proof.Proof.Gen.KernelIdeal.Launch
public import Idealize.ShloMosaic.Lib.Pipeline.Regions
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore (S V T)
open Idealize.ShloMosaic.SparseCore.Cfg (HIx)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-- The contents of a device's TensorCore buffers when the call is entered. -/
abbrev Entry (F : FTy → Type) [FloatOps F] : Type := (c : Dev nD) → (b : Ref sig .tc) → Buf (Elt F) ((c.tc : Thread nD τ).loc b)

variable (Ve : Entry F)

/-- The block of `z` a point fetches, of the squared lengths, and the two whole tables. -/
abbrev zB (c : Dev nD) (t : Fin cfg0.N) : (cfg0.win 0).block.Idx → Elt F (cfg0.win 0).elt :=
  ((cfg0.win 0).blk t).view.read (Elt F) (Ve c (Pipeline.arrRef spec0 0))
abbrev qB (c : Dev nD) (t : Fin cfg0.N) : (cfg0.win 1).block.Idx → Elt F (cfg0.win 1).elt :=
  ((cfg0.win 1).blk t).view.read (Elt F) (Ve c (Pipeline.arrRef spec0 1))
abbrev eB (c : Dev nD) (t : Fin cfg0.N) : (cfg0.win 2).block.Idx → Elt F (cfg0.win 2).elt :=
  ((cfg0.win 2).blk t).view.read (Elt F) (Ve c (Pipeline.arrRef spec0 2))
abbrev lB (c : Dev nD) (t : Fin cfg0.N) : (cfg0.win 3).block.Idx → Elt F (cfg0.win 3).elt :=
  ((cfg0.win 3).blk t).view.read (Elt F) (Ve c (Pipeline.arrRef spec0 3))

/-- The distances of a block. -/
def dist (c : Dev nD) (t : Fin cfg0.N) : FVec F S256x4096 .f32 := k0_pay7 (zB Ve c t) (eB Ve c t) (qB Ve c t) (lB Ve c t)

/-- The counts after the first `n` blocks. -/
def cntAt (c : Dev nD) : ℕ → FVec F S1x4096 .f32
  | 0 => k0_pay5
  | n + 1 => if h : n < cfg0.N then k0_pay1 cols (k0_pay9 (dist Ve c ⟨n, h⟩)) (cntAt c n) else cntAt c n

/-- The sum of the smallest distances of the first `n` blocks. -/
def sumAt (c : Dev nD) : ℕ → FVec F S1x1 .f32
  | 0 => k0_pay6
  | n + 1 => if h : n < cfg0.N then k0_pay2 (k0_pay8 (dist Ve c ⟨n, h⟩)) (sumAt c n) else sumAt c n

theorem cntAt_succ (c : Dev nD) (t : Fin cfg0.N) : cntAt Ve c (t.val + 1) = k0_pay1 cols (k0_pay9 (dist Ve c t)) (cntAt Ve c t.val) := dif_pos t.isLt
theorem sumAt_succ (c : Dev nD) (t : Fin cfg0.N) : sumAt Ve c (t.val + 1) = k0_pay2 (k0_pay8 (dist Ve c t)) (sumAt Ve c t.val) := dif_pos t.isLt

/-- Which points are first and last. -/
theorem first_iff : ∀ t : Fin grid0.N, first (grid0.coords t) = 1#1 ↔ t.val = 0 := by decide +kernel
theorem last_iff : ∀ t : Fin grid0.N, k0_cond2 (grid0.coords t) = 1#1 ↔ t.val % 32 = 31 := by decide +kernel

/-- The scratch before point `n`: the distances at something, the counts and the sum of the blocks so far (anything
    before the first). -/
def Phi (c : Dev nD) (n : ℕ) : sProp 𝕄 :=
  iprop((∃ X, own c (Memref.whole cc0_scratch0) X)
    ∗ (∃ C, ⌜n ≠ 0 → C = cntAt Ve c n⌝ ∗ own c (Memref.whole cc0_scratch1) C)
    ∗ (∃ A, ⌜n ≠ 0 → A = sumAt Ve c n⌝ ∗ own c (Memref.whole cc0_scratch2) A))

/-- What the core has recorded of its waits while it runs the call: pairs low enough for the handshake to follow. -/
abbrev recd (c : Dev nD) : Set (SemLoc sig × HIx 1) := {p | (K (F := F)).lev (T c, p.1) p.2 ≤ 0}

/-- The proof data. -/
def dats (_ : Fin 1) (c : Dev nD) : Dat τ (Elt F) (HIx 1) ℕ UU ℕ cfg0 c where
  A w := Ve c (Pipeline.arrRef spec0 w)
  after w t := match w with
    | ⟨0, _⟩ => zB Ve c t
    | ⟨1, _⟩ => qB Ve c t
    | ⟨2, _⟩ => eB Ve c t
    | ⟨3, _⟩ => lB Ve c t
    | ⟨4, _⟩ => k0_pay10 (dist Ve c t)
    | ⟨5, _⟩ => k0_pay3 (sumAt Ve c (t.val + 1))
    | ⟨6, _⟩ => k0_pay4 (cntAt Ve c (t.val + 1))
    | ⟨_ + 7, h⟩ => absurd h (Nat.not_lt.2 (Nat.le_add_left _ _))
  Φ t := Phi Ve c t.val
  q _ := fullShare
  owed _ := (K (F := F)).Otc c 0
  recorded _ := recd (F := F) c

theorem before0 (c : Dev nD) (t : Fin cfg0.N) (d : (cfg0.win 0).block.Idx → Elt F (cfg0.win 0).elt) :
    (dats Ve 0 c).before 0 t d = zB Ve c t := by
  rw [(dats Ve 0 c).before_in_eq_fetched 0 rfl (fun _ => rfl) (fun _ _ _ => rfl) (fun _ => rfl)]; rfl
theorem before1 (c : Dev nD) (t : Fin cfg0.N) (d : (cfg0.win 1).block.Idx → Elt F (cfg0.win 1).elt) :
    (dats Ve 0 c).before 1 t d = qB Ve c t := by
  rw [(dats Ve 0 c).before_in_eq_fetched 1 rfl (fun _ => rfl) (fun _ _ _ => rfl) (fun _ => rfl)]; rfl
theorem before2 (c : Dev nD) (t : Fin cfg0.N) (d : (cfg0.win 2).block.Idx → Elt F (cfg0.win 2).elt) :
    (dats Ve 0 c).before 2 t d = eB Ve c t := by
  rw [(dats Ve 0 c).before_in_eq_fetched 2 rfl (fun _ => rfl) (fun _ _ _ => rfl) (fun _ => rfl)]; rfl
theorem before3 (c : Dev nD) (t : Fin cfg0.N) (d : (cfg0.win 3).block.Idx → Elt F (cfg0.win 3).elt) :
    (dats Ve 0 c).before 3 t d = lB Ve c t := by
  rw [(dats Ve 0 c).before_in_eq_fetched 3 rfl (fun _ => rfl) (fun _ _ _ => rfl) (fun _ => rfl)]; rfl

theorem after4 (c : Dev nD) (t : Fin cfg0.N) :
    (dats Ve 0 c).after 4 t = k0_pay10 (k0_pay7 (zB Ve c t) (eB Ve c t) (qB Ve c t) (lB Ve c t)) := by
  dsimp only [dats]; unfold dist; rfl
theorem after5 (c : Dev nD) (t : Fin cfg0.N) : (dats Ve 0 c).after 5 t = k0_pay3 (sumAt Ve c (t.val + 1)) := by dsimp only [dats]
theorem after6 (c : Dev nD) (t : Fin cfg0.N) : (dats Ve 0 c).after 6 t = k0_pay4 (cntAt Ve c (t.val + 1)) := by dsimp only [dats]

theorem body_obligation (c : Dev nD) : BodyObligation (dats Ve 0 c) (defs₀ (F := F)) 𝒱₀ none Set.univ := fun t => by
  rw [bigSep_W0, bigSep_W0]
  rw [show (dats Ve 0 c).Φ t.castSucc = Phi Ve c t.val from rfl, show (dats Ve 0 c).Φ t.succ = Phi Ve c (t.val + 1) from rfl,
    show (dats Ve 0 c).owesAt none t.succ = (dats Ve 0 c).owesAt none t.castSucc from rfl]
  unfold Phi
  iintro ⟨⟨⟨%X8, H8⟩, ⟨%C, %hC, H9⟩, ⟨%A, %hA, H10⟩⟩, HO, ⟨%d0, H0⟩, ⟨%d1, H1⟩, ⟨%d2, H2⟩, ⟨%d3, H3⟩, ⟨%d4, H4⟩, ⟨%d5, H5⟩, ⟨%d6, H6⟩⟩
  rw [before0, before1, before2, before3]
  have hc : cntIn (grid0.coords t) C = cntAt Ve c t.val := by
    unfold cntIn
    by_cases h0 : t.val = 0
    · rw [if_pos ((first_iff t).mpr h0), h0]; rfl
    · rw [if_neg (fun h => h0 ((first_iff t).mp h)), hC h0]
  have ha : sumIn (grid0.coords t) A = sumAt Ve c t.val := by
    unfold sumIn
    by_cases h0 : t.val = 0
    · rw [if_pos ((first_iff t).mpr h0), h0]; rfl
    · rw [if_neg (fun h => h0 ((first_iff t).mp h)), hA h0]
  have hco : cntOut (grid0.coords t) (zB Ve c t) (qB Ve c t) (eB Ve c t) (lB Ve c t) C = cntAt Ve c (t.val + 1) := by
    rw [cntAt_succ]; unfold cntOut; rw [hc]; rfl
  have hso : sumOut (grid0.coords t) (zB Ve c t) (qB Ve c t) (eB Ve c t) (lB Ve c t) A = sumAt Ve c (t.val + 1) := by
    rw [sumAt_succ]; unfold sumOut; rw [ha]; rfl
  iapply (body_run c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (zB Ve c t) (qB Ve c t) (eB Ve c t) (lB Ve c t)
    ((dats Ve 0 c).before 4 t d4) ((dats Ve 0 c).before 5 t d5) ((dats Ve 0 c).before 6 t d6) X8 C A _)
  rw [hco, hso]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  iintro ⟨H0, H1, H2, H3, H4, H5, H6, H8, H9, H10⟩
  isplitl [H8 H9 H10]
  · isplitl [H8]; · iexists _; iexact H8
    isplitl [H9]
    · iexists _; isplitr; swap; (· iexact H9); ipureintro; exact fun _ => rfl
    · iexists _; isplitr; swap; (· iexact H10); ipureintro; exact fun _ => rfl
  isplitl [HO]; · iexact HO
  isplitl [H0]; · iexact H0
  isplitl [H1]; · iexact H1
  isplitl [H2]; · iexact H2
  isplitl [H3]; · iexact H3
  rw [after4]
  isplitl [H4]; · iexact H4
  by_cases hl : k0_cond2 (grid0.coords t) = 1#1
  · have e5 : cfg0.idle 5 (cfg0.grid.coords t) = false := by
      show (!(k0_cond2 (grid0.coords t) == 1#1)) = false; rw [hl]; rfl
    rw [if_pos hl, if_pos hl, e5, after5, after6]
    isplitl [H5]; · iexact H5
    iexact H6
  · have e5 : cfg0.idle 5 (cfg0.grid.coords t) = true := by
      show (!(k0_cond2 (grid0.coords t) == 1#1)) = true
      rw [beq_eq_false_iff_ne.mpr hl]; rfl
    have f5 : (cfg0.win 5).flush t = false := Bool.eq_false_iff.mpr fun h => hl ((last_iff t).mpr ((flush0_5 t).mp h))
    have f6 : (cfg0.win 6).flush t = false := Bool.eq_false_iff.mpr fun h => hl ((last_iff t).mpr ((flush0_6 t).mp h))
    rw [if_neg hl, if_neg hl, e5, f5, f6]
    isplitl [H5]; · iexists _; iexact H5
    iexists _; iexact H6

end Cert.Proof

end
-- ==== Proof.Seg.lean ====
/-
  The TensorCore call as a region of @main: from the buffers held at one valuation to the buffers held at another, the
  core's debts to the SparseCore call carried through untouched.
-/
module

public import proofs.«01_k».proof.Proof.Region
public import Idealize.ShloMosaic.Lib.Pipeline.RegionArrays
public import Idealize.ShloMosaic.Lib.Pipeline.FrameSuffix

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore (S V T)
open Idealize.ShloMosaic.SparseCore.Cfg (HIx)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-- No table is prefetched. -/
abbrev adm : (p : Fin 1) → (pcfgs (F := F) p).Adm := fun p => (cfgs p).toPCfg_adm

/-- The valuation a region is entered at, read at the TensorCore's references. -/
abbrev entry (W : Dev nD → Valuation τ sig (Elt F)) : Entry F := fun c b => W c (Proc.devRef .tc b)

/-- The arrays after the call. -/
abbrev outA (W : Dev nD → Valuation τ sig (Elt F)) (c : Dev nD) (w : Fin cfg0.W) :
    Buf (Elt F) ((cfg0.win w).arr.view.loc (c.tc : Thread nD τ)) := (dats (entry W) 0 c).arrAt w cfg0.N

/-- The valuation the region leaves. -/
def Wout (W : Dev nD → Valuation τ sig (Elt F)) (c : Dev nD) : Valuation τ sig (Elt F) := Pipeline.withArrays spec0 c (W c) (outA W c)

/-- What the core owes the SparseCore call, its recorded pairs at the bottom level. -/
abbrev debts (c : Dev nD) : sProp 𝕄 :=
  iprop(∃ Wd, ⌜(K (F := F)).WBelow (T c) Wd 0⌝ ∗ owes (T c) ((K (F := F)).Otc c 0) Wd)

theorem Otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

set_option backward.isDefEq.respectTransparency.types false in
def reg (W : Dev nD → Valuation τ sig (Elt F)) :
    Pipeline.RegionSeg (pcfgs (F := F)) adm (dats (entry W)) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (entry W) c).loose
  hwaits c := Pipeline.cellsWaits_intro (Pipeline.pin (pcfgs (F := F)) adm) (dats (entry W)) none 0 c fun w s t =>
    (K (F := F)).mayWait_none _ (Otc_none c)
  pre c := iprop(StableHlo.held (c.tc : Thread nD τ) (Pipeline.arrRefs spec0) (W c) ∗ debts c)
  post c := iprop(StableHlo.held (c.tc : Thread nD τ) (Pipeline.arrRefs spec0) (Wout W c) ∗ debts c)
  X _ := iprop(emp)
  Y _ := iprop(emp)
  Z _ := iprop(emp)
  hentry c := by
    rw [Pipeline.ownSems0_none, Pipeline.prefHeld_of_none _ rfl,
      ← Pipeline.arrays_held (pcfgs (F := F)) adm (dats (entry W)) 0 launch0.toP c ((dats (entry W) 0 c).share_full fun _ => rfl)
        ((dats (entry W) 0 c).arrAt · 0) (W c) (fun w => by dsimp only [dats]; rfl)]
    iintro ⟨⟨Ha, %Wd, %hW, HO⟩, -, -⟩
    imodintro
    isplitl [Ha]; · iexact Ha
    isplitr; · iempintro
    isplitl [HO]
    · unfold Pipeline.Dat.owesAt Pipeline.owesWithin
      iexists Wd; isplitr; · ipureintro; exact fun p hp => Or.inl (hW p hp)
      iexact HO
    isplitr <;> iempintro
  hin c := by
    rw [Pipeline.prefHeld_of_none _ rfl, show (dats (entry W) 0 c).Φ 0 = Phi (entry W) c 0 from rfl]; unfold Phi
    rw [scopedRest0_eq]
    iintro ⟨-, -, ⟨%f8, H8⟩, ⟨%f9, H9⟩, ⟨%f10, H10⟩⟩
    isplitl [H8]
    · iexists f8; simp only [owns_whole_eq]; iexists f8; isplitr; swap; (· iexact H8); ipureintro; rfl
    isplitl [H9]
    · iexists f9; isplitr; · ipureintro; exact fun h => absurd rfl h
      simp only [owns_whole_eq]; iexists f9; isplitr; swap; (· iexact H9); ipureintro; rfl
    · iexists f10; isplitr; · ipureintro; exact fun h => absurd rfl h
      simp only [owns_whole_eq]; iexists f10; isplitr; swap; (· iexact H10); ipureintro; rfl
  hout c := by
    rw [Pipeline.ownSems0_none, show (dats (entry W) 0 c).Φ (Fin.last cfg0.N) = Phi (entry W) c cfg0.N from rfl]; unfold Phi
    rw [scopedRest0_eq]
    simp only [owns_whole_eq]
    iintro ⟨⟨%X, %f8, -, H8⟩, ⟨%C, -, %f9, -, H9⟩, ⟨%A, -, %f10, -, H10⟩⟩
    isplitr; · iempintro
    isplitr; · iempintro
    isplitl [H8]; · iexists _; iexact H8
    isplitl [H9]; · iexists _; iexact H9
    iexists _; iexact H10
  hexit c := by
    rw [← Pipeline.arrays_held (pcfgs (F := F)) adm (dats (entry W)) 0 launch0.toP c ((dats (entry W) 0 c).share_full fun _ => rfl)
        ((dats (entry W) 0 c).arrAt · cfg0.N) (Wout W c) (fun w => (Pipeline.withArrays_arr spec0 launch0.win.arr_inj c (W c) (outA W c) w).symm)]
    iintro ⟨Ha, HO, -, -⟩
    imodintro
    isplitl [Ha]; · iexact Ha
    unfold Pipeline.Dat.owesAt Pipeline.owesWithin
    icases HO with ⟨%Wd, %hW, HO⟩
    iexists Wd; isplitr
    · ipureintro; intro p hp
      rcases hW hp with h | ⟨w, s, h⟩
      · exact h
      · rw [h]; exact le_rfl
    iexact HO

end Cert.Proof

end
-- ==== Proof.Tile.lean ====
/-
  One tile's run of the gather kernel. A tile serves two blocks of 128 rows, double buffered: it fetches block 0's
  indices before its loop, fetches block 1's on trip 0, gathers each block's rows from the table and writes them out,
  and waits for the two write-outs on trip 1 and after the loop. The loop's invariant says, at each trip, which
  transfers are in flight and what they deliver; the values are carried throughout: a slot's indices are the block's,
  and what a write-out leaves is the gathered rows (`gath`).
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The values -/

section Values

variable (A : FVec F S4096x128 .f32) (B : IVec S1x8192 32) (L : grid1.Coords) (t b : Fin 2)

/-- The flat list's entry `k` is the slot's word at `(0, k)`. -/
theorem sList_ix : ∀ k : Fin 128, (Rect.unit (s := S1x128) ![0, 0] S1x128.size inb_S1x128_S1x128_0_0).emb
    (Shape.reshapeEquiv (squeezes_S1x128_S128).numel_eq (S128.rowMajor.symm (k.cast (by decide)))) = ix2 (0 : Fin 1) k := by
  decide +kernel

theorem sList_set : (sList b).view.set = (sSlot b).view.set := by
  show ((((sSlot b).view.slice (Rect.unit (s := S1x128) ![0, 0] S1x128.size inb_S1x128_S1x128_0_0)).reshape S128 _)).set = _
  rw [View.set_reshape, View.set_slice,
    show (Rect.unit (s := S1x128) ![0, 0] S1x128.size inb_S1x128_S1x128_0_0).set = Finset.univ from
      Finset.eq_univ_of_forall fun y => by
        rw [Rect.mem_set_unit]; intro a; fin_cases a
        · exact ⟨Nat.zero_le _, by simpa using (y 0).isLt⟩
        · exact ⟨Nat.zero_le _, by simpa using (y 1).isLt⟩]
  rfl

theorem xAll_set : xAll.view.set = Finset.univ := by
  show (xV.view.slice (Rect.unit (s := S4096x128) ![0, 0] S4096x128.size inb_S4096x128_S4096x128_0_0)).set = _
  rw [View.set_slice,
    show (Rect.unit (s := S4096x128) ![0, 0] S4096x128.size inb_S4096x128_S4096x128_0_0).set = Finset.univ from
      Finset.eq_univ_of_forall fun y => by
        rw [Rect.mem_set_unit]; intro a; fin_cases a
        · exact ⟨Nat.zero_le _, by simpa using (y 0).isLt⟩
        · exact ⟨Nat.zero_le _, by simpa using (y 1).isLt⟩]
  exact View.set_whole _

/-- Reading the fetched list: entry `k` is the index list's word at the block's position `k`. -/
theorem list_word (g : (sSlot b).view.ty.Contents (Elt F))
    (hg : (sSlot b).view.read (Elt F) g = (iBlk L t).view.read (Elt F) B) (k : Fin 128) :
    (sList b).view.read (Elt F) g (S128.rowMajor.symm (k.cast (by decide)))
      = B (ix2 (0 : Fin 1) (⟨128 * blk L t + k.val, by have := blk_lt L t; omega⟩ : Fin 8192)) := by
  have h1 : (sList b).view.read (Elt F) g (S128.rowMajor.symm (k.cast (by decide)))
      = (sSlot b).view.read (Elt F) g (ix2 (0 : Fin 1) k) := by
    rw [← sList_ix k]; rfl
  rw [h1, hg]
  show B _ = B _
  congr 1
  funext a; match a with
  | 0 => rfl
  | 1 => exact Fin.ext (by show 128 * blk L t + 1 * k.val = 128 * blk L t + k.val; omega)

/-- The list's words are rows of the table. -/
theorem list_lt (hB : ∀ j, (B j).toNat < 4096) (g : (sSlot b).view.ty.Contents (Elt F))
    (hg : (sSlot b).view.read (Elt F) g = (iBlk L t).view.read (Elt F) B) (x : S128.Idx) :
    ((sList b).view.read (Elt F) g x).toNat < S4096x128.size gathers_S4096x128_S128x128.axis := by
  obtain ⟨k, rfl⟩ : ∃ k : Fin 128, x = S128.rowMajor.symm (k.cast (by decide)) :=
    ⟨(S128.rowMajor x).cast (by decide), by rw [Fin.cast_cast]; exact (S128.rowMajor.symm_apply_apply x).symm⟩
  rw [list_word B L t b g hg k]
  exact hB _

/-- What a gather over the fetched list leaves at `(r, l)`: the table's entry `l` of the row the list names at the
    block's position `r`. -/
theorem payload_eq (hB : ∀ j, (B j).toNat < 4096) (g : (sSlot b).view.ty.Contents (Elt F))
    (hg : (sSlot b).view.read (Elt F) g = (iBlk L t).view.read (Elt F) B)
    (hin : ∀ x, ((sList b).view.read (Elt F) g x).toNat < S4096x128.size gathers_S4096x128_S128x128.axis)
    (r : Fin 128) (l : Fin 128) :
    SparseCore.gatherPayload (F := F) (e := .f32) gathers_S4096x128_S128x128 (xAll.view.read (Elt F) A)
        (SparseCore.rows (F := F) ((sList b).view.read (Elt F) g) rfl hin) (ix2 r l)
      = gath A B (ix2 (⟨128 * blk L t + r.val, by have := blk_lt L t; omega⟩ : Fin 8192) l) := by
  unfold SparseCore.gatherPayload gath
  show A (((Rect.unit (s := S4096x128) ![0, 0] S4096x128.size inb_S4096x128_S4096x128_0_0)).emb _) = A _
  congr 1
  funext a; match a with
  | 0 =>
    refine Fin.ext ?_
    show 0 + 1 * (gathers_S4096x128_S128x128.idx (SparseCore.rows (F := F) ((sList b).view.read (Elt F) g) rfl hin) (ix2 r l)
      gathers_S4096x128_S128x128.axis).val = (B _).toNat % 4096
    rw [Shape.Gathers.idx_axis]
    show 0 + 1 * ((sList b).view.read (Elt F) g (S128.rowMajor.symm (r.cast (by decide)))).toNat = _
    rw [list_word B L t b g hg r, Nat.mod_eq_of_lt (hB _), Nat.zero_add, Nat.one_mul]
  | 1 =>
    refine Fin.ext ?_
    show 0 + 1 * (gathers_S4096x128_S128x128.idx (SparseCore.rows (F := F) ((sList b).view.read (Elt F) g) rfl hin) (ix2 r l) 1).val = l.val
    rw [Shape.Gathers.idx_of_ne _ _ _ 1 (by decide)]
    show 0 + 1 * l.val = l.val
    omega

/-- A block written out with the gathered rows holds `gath` there. -/
theorem out_eq (fo : (oBlk L t).view.ty.Contents (Elt F)) (w : S128x128.Idx → Elt F .f32)
    (hw : ∀ r l : Fin 128, w (ix2 r l) = gath A B (ix2 (⟨128 * blk L t + r.val, by have := blk_lt L t; omega⟩ : Fin 8192) l)) :
    ∀ j ∈ (oBlk L t).view.set, (oBlk L t).view.write (Elt F) fo w Finset.univ j = gath A B j := by
  intro j hj
  obtain ⟨x, -, rfl⟩ := Finset.mem_map.mp hj
  rw [View.write_emb_of_mem _ _ (Finset.mem_univ x)]
  obtain ⟨r, l, rfl⟩ : ∃ r l : Fin 128, x = ix2 r l := ⟨x 0, x 1, eq_ix2 x⟩
  refine (hw r l).trans ?_
  congr 1
  funext a; match a with
  | 0 => exact Fin.ext (by show 128 * blk L t + r.val = 128 * blk L t + 1 * r.val; omega)
  | 1 => exact Fin.ext (by show l.val = 0 + 1 * l.val; omega)

end Values

/-! ## What a tile holds -/

section Tile

variable [FloatOps F]
variable (A : FVec F S4096x128 .f32) (B : IVec S1x8192 32) (d : Dev nD) (L : grid1.Coords) (q : PosShare TreeShare)

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

/-- Block `t` of the index list; block `t` of the result at some contents, and holding the gathered rows; the table at
    the tile's share. -/
abbrev iPts (t : Fin 2) : sProp 𝕄 := (iBlk L t).view.loc (thr d L) ↦[(iBlk L t).view.set]{fullShare} B
abbrev oAny (t : Fin 2) : sProp 𝕄 := iprop(∃ f, (oBlk L t).view.loc (thr d L) ↦[(oBlk L t).view.set]{fullShare} f)
abbrev oPts (t : Fin 2) : sProp 𝕄 := (oBlk L t).view.loc (thr d L) ↦[(oBlk L t).view.set]{fullShare} (gath A B)
abbrev xPts : sProp 𝕄 := xV.view.loc (thr d L) ↦{q} A
/-- Index slot `b` at some contents, and holding block `t`'s indices; row slot `b` at some contents. -/
abbrev sAny (b : Fin 2) : sProp 𝕄 := iprop(∃ f, (sSlot b).view.loc (thr d L) ↦[(sSlot b).view.set]{fullShare} f)
abbrev sHolds (b t : Fin 2) : sProp 𝕄 :=
  iprop(∃ f, ⌜(sSlot b).view.read (Elt F) f = (iBlk L t).view.read (Elt F) B⌝ ∗ (sSlot b).view.loc (thr d L) ↦[(sSlot b).view.set]{fullShare} f)
abbrev rAny (b : Fin 2) : sProp 𝕄 := iprop(∃ f, (rSlot b).view.loc (thr d L) ↦[(rSlot b).view.set]{fullShare} f)
abbrev inZ (b : Fin 2) : sProp 𝕄 := semVal (thr d L, SemLoc.dma (inSem b)) 0
abbrev outZ (b : Fin 2) : sProp 𝕄 := semVal (thr d L, SemLoc.dma (outSem b)) 0
abbrev gZ : sProp 𝕄 := semVal (thr d L, SemLoc.dma gSem) 0

/-- The fetch of block `t`'s indices into slot `t`, in flight; the write-out of block `t` from row slot `t`. -/
abbrev inFl (t : Fin 2) : sProp 𝕄 :=
  Transfers.Flight countersEmb (thr d L) (.dma (inSem t)) (default : HIx 1) (sSlot t).view.dmaCredit iprop(sHolds B d L t t ∗ iPts B d L t)
abbrev outFl (t : Fin 2) : sProp 𝕄 :=
  Transfers.Flight countersEmb (thr d L) (.dma (outSem t)) (default : HIx 1) (oBlk L t).view.dmaCredit iprop(oPts A B d L t ∗ rAny (F := F) d L t)

variable (O : CellTallies nD τ sig (HIx 1)) (W : Waits sig (HIx 1))

/-- The tile's obligations, its waits recorded beyond `W` being the transfers' own. -/
abbrev owesT : sProp 𝕄 := iprop(∃ W', ⌜∀ p ∈ W', p ∈ W ∨ p.2 = none⌝ ∗ owes (thr d L) O W')

/-- What the tile holds before trip 0, between the trips, and after the loop. -/
def st0 : sProp 𝕄 := iprop(levAts (K (F := F)).L (K (F := F)).lev ∗ inFl B d L 0 ∗ iPts B d L 1 ∗ sAny (F := F) d L 1 ∗ inZ (F := F) d L 1
  ∗ xPts A d L q ∗ rAny (F := F) d L 0 ∗ rAny (F := F) d L 1 ∗ outZ (F := F) d L 0 ∗ outZ (F := F) d L 1 ∗ gZ (F := F) d L
  ∗ oAny (F := F) d L 0 ∗ oAny (F := F) d L 1 ∗ owesT (F := F) d L O W)
def st1 : sProp 𝕄 := iprop(levAts (K (F := F)).L (K (F := F)).lev ∗ inFl B d L 1 ∗ iPts B d L 0 ∗ sAny (F := F) d L 0 ∗ inZ (F := F) d L 0
  ∗ xPts A d L q ∗ outFl A B d L 0 ∗ rAny (F := F) d L 1 ∗ outZ (F := F) d L 1 ∗ gZ (F := F) d L
  ∗ oAny (F := F) d L 1 ∗ owesT (F := F) d L O W)
def st2 : sProp 𝕄 := iprop(levAts (K (F := F)).L (K (F := F)).lev ∗ outFl A B d L 1 ∗ iPts B d L 0 ∗ iPts B d L 1 ∗ sAny (F := F) d L 0 ∗ sAny (F := F) d L 1
  ∗ inZ (F := F) d L 0 ∗ inZ (F := F) d L 1
  ∗ xPts A d L q ∗ rAny (F := F) d L 0 ∗ outZ (F := F) d L 0 ∗ gZ (F := F) d L
  ∗ oPts A B d L 0 ∗ owesT (F := F) d L O W)

/-! ## The three steps of a trip -/

/-- The fetch of block `t`'s indices is issued. -/
theorem wp_fetch {α : Type} {Q : α → sProp 𝕄} (t : Fin 2) {k : PUnit → Prog (TpuEff nD τ sig (Elt F) Λ₀ (thr d L).2) α} {h1 : (iBlk L t).view.WordExact}
    {h2 : (sSlot t).view.WordExact} {h3 : DmaTarget.Typed (nD := nD) (τ := τ) (p := (thr d L).2) .hbm (.dma (inSem t)) (.here (sSlot t))} :
    iprop(iPts B d L t ∗ sAny (F := F) d L t ∗ inZ (F := F) d L t)
      ⊢ iprop((inFl B d L t -∗ wp frame (wpE (defs₀ (F := F)) 𝒱₀ (thr d L) none) Set.univ (k ⟨⟩) Q)
          -∗ wp frame (wpE (defs₀ (F := F)) 𝒱₀ (thr d L) none) Set.univ
            (.op (TpuEff.enqueueDma (iBlk L t) (.here (sSlot t)) (.dma (inSem t)) h1 h2 h3) k) Q) := by
  have hpos : 0 < (sSlot t).view.dmaCredit := by fin_cases t <;> decide
  have hmono : ∀ f, iprop(((sSlot t).view.loc (thr d L) ↦[(sSlot t).view.set]{fullShare} (sSlot t).view.write (Elt F) f ((iBlk L t).view.read (Elt F) B) Finset.univ)
      ∗ iPts B d L t) ⊢ (iprop(sHolds B d L t t ∗ iPts B d L t) : sProp 𝕄) := by
    intro f
    iintro ⟨Hs, Hi⟩
    isplitl [Hs]
    · iexists _
      isplitr
      swap; · iexact Hs
      ipureintro
      exact View.read_write_univ _ _
    iexact Hi
  iintro ⟨Hi, ⟨%f, Hs⟩, Hz⟩ Hk
  iapply (Transfers.wp_dmaLocal countersEmb 𝒱₀ (thr d L) none (default : HIx 1) (sSlot t).view.dmaCredit rfl
    hpos (Finset.Subset.refl _)) $$ [Hi Hs Hz]
  · isplitl [Hi]; · iexact Hi
    isplitl [Hs]; · iexact Hs
    iexact Hz
  iintro Hfl
  iapply Hk
  iapply (Transfers.Flight_mono countersEmb (thr d L) (hmono f)) $$ Hfl

/-- A wait on a transfer in flight: what it delivers, the semaphore at zero. -/
theorem wp_wait {α : Type} {Q : α → sProp 𝕄} (hO : ∀ g, O g none = 0) {sp sp' : Space} {s s' : Shape} {e e' : EltTy} {sem : DmaSem sig}
    {src : Memref sig (thr d L).2.kind sp' s' e'} {κ : Kind} {dst : Memref sig κ sp s e} {h1 : src.view.WordExact} {h2 : dst.view.WordExact}
    {k : PUnit → Prog (TpuEff nD τ sig (Elt F) Λ₀ (thr d L).2) α} {N : ℕ} (hN : dst.view.dmaCredit = N) {Dl : sProp 𝕄} :
    iprop(levAts (K (F := F)).L (K (F := F)).lev ∗ Transfers.Flight countersEmb (thr d L) (.dma sem) (default : HIx 1) N Dl ∗ owesT (F := F) d L O W)
      ⊢ iprop(((Dl ∗ semVal (thr d L, SemLoc.dma sem) 0 ∗ owesT (F := F) d L O W) -∗ wp frame (wpE (defs₀ (F := F)) 𝒱₀ (thr d L) none) Set.univ (k ⟨⟩) Q)
          -∗ wp frame (wpE (defs₀ (F := F)) 𝒱₀ (thr d L) none) Set.univ
            (.op (TpuEff.waitDma2 sem src dst h1 h2) k) Q) := by
  iintro ⟨#Hlv, Hfl, ⟨%W', %hW', HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HD, Hz, HO⟩
  iapply Hk
  isplitl [HD]; · iexact HD
  isplitl [Hz]; · iexact Hz
  iexists _
  isplitr
  swap; · iexact HO
  ipureintro
  intro p hp
  rcases Finset.mem_insert.mp hp with hp | hp
  · exact .inr (hp ▸ rfl)
  · exact hW' p hp

/-- Row slot `t` holds block `t`'s gathered rows. -/
abbrev rHolds (t : Fin 2) : sProp 𝕄 :=
  iprop(∃ f, ⌜∀ r l : Fin 128, (rSlot t).view.read (Elt F) f (ix2 r l)
      = gath A B (ix2 (⟨128 * blk L t + r.val, by have := blk_lt L t; omega⟩ : Fin 8192) l)⌝
    ∗ (rSlot t).view.loc (thr d L) ↦[(rSlot t).view.set]{fullShare} f)

/-- The gather of block `t`'s rows, in flight. -/
abbrev gFl (t : Fin 2) : sProp 𝕄 :=
  Transfers.Flight countersEmb (thr d L) (.dma gSem) (default : HIx 1) (rSlot t).view.dmaCredit
    iprop(rHolds A B d L t ∗ xPts A d L q ∗ sAny (F := F) d L t)

/-- The gather of block `t`'s rows is issued, over the indices slot `t` holds. -/
theorem wp_gather {α : Type} {Q : α → sProp 𝕄} (hB : ∀ j, (B j).toNat < 4096) (t : Fin 2)
    {h0 : (thr d L).2.kind = .scVector} {h1 : (xAll).view.WordExact} {h2 : EltTy.f32.bits = 32} {h3 : Space.hbm = .hbm ∨ Space.hbm = .shared}
    {h4 : S4096x128.StreamRows 0} {h5 : S128.numel = S128x128.size gathers_S4096x128_S128x128.axis'}
    {k : PUnit → Prog (TpuEff nD τ sig (Elt F) Λ₀ (thr d L).2) α} :
    iprop(xPts A d L q ∗ rAny (F := F) d L t ∗ sHolds B d L t t ∗ gZ (F := F) d L)
      ⊢ iprop((gFl A B d L q t -∗ wp frame (wpE (defs₀ (F := F)) 𝒱₀ (thr d L) none) Set.univ (k ⟨⟩) Q)
          -∗ wp frame (wpE (defs₀ (F := F)) 𝒱₀ (thr d L) none) Set.univ
            (SparseCore.enqueueIndirectGather h0 xAll (rSlot t) gathers_S4096x128_S128x128 (sList t) h5 gSem h1 h2 h3 h4 >>= k) Q) := by
  have hN : ∀ t : Fin 2, ∑ j, ((rSlot t).slice (S128x128.rowRect gathers_S4096x128_S128x128.axis' j)
      (S128x128.stride_rowRect gathers_S4096x128_S128x128.axis' j)).view.dmaCredit = (rSlot t).view.dmaCredit := by
    intro t; decide +revert
  iintro ⟨Hx, ⟨%fr, Hr⟩, ⟨%fs, %hfs, Hs⟩, Hz⟩ Hk
  have hin := list_lt B L t t hB fs hfs
  iapply (SparseCore.wp_indirectGatherLocal countersEmb 𝒱₀ (thr d L) none (hg := gathers_S4096x128_S128x128) (default : HIx 1)
      (rSlot t).view.dmaCredit (hN t) (by decide) hin) $$ [Hx Hr Hs Hz]
  · isplitl [Hx]; · rw [xAll_set]; iexact Hx
    isplitl [Hr]; · iexact Hr
    isplitl [Hs]; · rw [sList_set]; iexact Hs
    iexact Hz
  iintro Hfl
  iapply Hk
  iapply (Transfers.Flight_mono countersEmb (thr d L) ?_) $$ Hfl
  rw [xAll_set, sList_set]
  iintro ⟨Hr, Hx, Hs⟩
  isplitl [Hr]
  · iexists _
    isplitr
    swap; · iexact Hr
    ipureintro
    intro r l
    rw [View.read_write_univ]
    exact payload_eq A B L t t hB fs hfs hin r l
  isplitl [Hx]; · iexact Hx
  iexists fs
  iexact Hs

/-- The write-out of block `t` is issued from row slot `t`. -/
theorem wp_write {α : Type} {Q : α → sProp 𝕄} (t : Fin 2) {k : PUnit → Prog (TpuEff nD τ sig (Elt F) Λ₀ (thr d L).2) α} {h1 : (rSlot t).view.WordExact}
    {h2 : (oBlk L t).view.WordExact} {h3 : DmaTarget.Typed (nD := nD) (τ := τ) (p := (thr d L).2) .vmem (.dma (outSem t)) (.here (oBlk L t))} :
    iprop(rHolds A B d L t ∗ oAny (F := F) d L t ∗ outZ (F := F) d L t)
      ⊢ iprop((outFl A B d L t -∗ wp frame (wpE (defs₀ (F := F)) 𝒱₀ (thr d L) none) Set.univ (k ⟨⟩) Q)
          -∗ wp frame (wpE (defs₀ (F := F)) 𝒱₀ (thr d L) none) Set.univ
            (.op (TpuEff.enqueueDma (rSlot t) (.here (oBlk L t)) (.dma (outSem t)) h1 h2 h3) k) Q) := by
  have hpos : 0 < (oBlk L t).view.dmaCredit := by
    have : ∀ (L : grid1.Coords) (t : Fin 2), 0 < (oBlk L t).view.dmaCredit := by decide +kernel
    exact this L t
  iintro ⟨⟨%fr, %hfr, Hr⟩, ⟨%f, Ho⟩, Hz⟩ Hk
  iapply (Transfers.wp_dmaLocal countersEmb 𝒱₀ (thr d L) none (default : HIx 1) (oBlk L t).view.dmaCredit rfl
    hpos (Finset.Subset.refl _)) $$ [Hr Ho Hz]
  · isplitl [Hr]; · iexact Hr
    isplitl [Ho]; · iexact Ho
    iexact Hz
  iintro Hfl
  iapply Hk
  iapply (Transfers.Flight_mono countersEmb (thr d L) ?_) $$ Hfl
  iintro ⟨Ho, Hr⟩
  isplitl [Ho]
  · iapply (Entails.of_eq (pointsTo_congr (out_eq A B L t f _ hfr))) $$ Ho
  iexists fr
  iexact Hr

end Tile

end Cert.Proof

end
-- ==== Proof.Trip.lean ====
/-
  The two trips of a tile's loop, one lemma each: what the tile holds before the trip becomes what it holds after, and
  the five words the loop carries are the next trip's.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (A : FVec F S4096x128 .f32) (B : IVec S1x8192 32) (d : Dev nD) (L : grid1.Coords) (q : PosShare TreeShare)
variable (O : CellTallies nD τ sig (HIx 1)) (W : Waits sig (HIx 1))

/-! ## The steps, at slices the program computes -/

theorem wp_fetch_at {α : Type} {Q : α → sProp 𝕄} (t : Fin 2) {src : Memref sig .scVector .hbm S1x128 .i32} {dst : Memref sig .scVector .vmem S1x128 .i32}
    {sem : DmaSem sig} (hs : src = iBlk L t) (hd : dst = sSlot t) (hm : sem = inSem t)
    {k : PUnit → Prog (TpuEff nD τ sig (Elt F) Λ₀ (thr d L).2) α} {h1 : src.view.WordExact}
    {h2 : dst.view.WordExact} {h3 : DmaTarget.Typed (nD := nD) (τ := τ) (p := (thr d L).2) .hbm (.dma sem) (.here dst)} :
    iprop(iPts B d L t ∗ sAny (F := F) d L t ∗ inZ (F := F) d L t)
      ⊢ iprop((inFl B d L t -∗ wp frame (wpE (defs₀ (F := F)) 𝒱₀ (thr d L) none) Set.univ (k ⟨⟩) Q)
          -∗ wp frame (wpE (defs₀ (F := F)) 𝒱₀ (thr d L) none) Set.univ
            (.op (TpuEff.enqueueDma src (.here dst) (.dma sem) h1 h2 h3) k) Q) := by
  subst hs hd hm; exact wp_fetch B d L t

theorem wp_write_at {α : Type} {Q : α → sProp 𝕄} (t : Fin 2) {src : Memref sig .scVector .vmem S128x128 .f32} {dst : Memref sig .scVector .hbm S128x128 .f32}
    {sem : DmaSem sig} (hs : src = rSlot t) (hd : dst = oBlk L t) (hm : sem = outSem t)
    {k : PUnit → Prog (TpuEff nD τ sig (Elt F) Λ₀ (thr d L).2) α} {h1 : src.view.WordExact}
    {h2 : dst.view.WordExact} {h3 : DmaTarget.Typed (nD := nD) (τ := τ) (p := (thr d L).2) .vmem (.dma sem) (.here dst)} :
    iprop(rHolds A B d L t ∗ oAny (F := F) d L t ∗ outZ (F := F) d L t)
      ⊢ iprop((outFl A B d L t -∗ wp frame (wpE (defs₀ (F := F)) 𝒱₀ (thr d L) none) Set.univ (k ⟨⟩) Q)
          -∗ wp frame (wpE (defs₀ (F := F)) 𝒱₀ (thr d L) none) Set.univ
            (.op (TpuEff.enqueueDma src (.here dst) (.dma sem) h1 h2 h3) k) Q) := by
  subst hs hd hm; exact wp_write A B d L t

theorem wp_waitIn_at {α : Type} {Q : α → sProp 𝕄} (hO : ∀ g, O g none = 0) (t : Fin 2) {src : Memref sig .scVector .hbm S1x128 .i32} {dst : Memref sig .scVector .vmem S1x128 .i32}
    {sem : DmaSem sig} (hd : dst = sSlot t) (hm : sem = inSem t)
    {k : PUnit → Prog (TpuEff nD τ sig (Elt F) Λ₀ (thr d L).2) α} {h1 : src.view.WordExact} {h2 : dst.view.WordExact} :
    iprop(levAts (K (F := F)).L (K (F := F)).lev ∗ inFl B d L t ∗ owesT (F := F) d L O W)
      ⊢ iprop((((sHolds B d L t t ∗ iPts B d L t) ∗ inZ (F := F) d L t ∗ owesT (F := F) d L O W)
            -∗ wp frame (wpE (defs₀ (F := F)) 𝒱₀ (thr d L) none) Set.univ (k ⟨⟩) Q)
          -∗ wp frame (wpE (defs₀ (F := F)) 𝒱₀ (thr d L) none) Set.univ
            (.op (TpuEff.waitDma2 sem src dst h1 h2) k) Q) := by
  subst hd hm; exact wp_wait d L O W hO rfl

theorem wp_waitOut_at {α : Type} {Q : α → sProp 𝕄} (hO : ∀ g, O g none = 0) (t : Fin 2) {src : Memref sig .scVector .vmem S128x128 .f32} {dst : Memref sig .scVector .hbm S128x128 .f32}
    {sem : DmaSem sig} (hd : dst = oBlk L t) (hm : sem = outSem t)
    {k : PUnit → Prog (TpuEff nD τ sig (Elt F) Λ₀ (thr d L).2) α} {h1 : src.view.WordExact} {h2 : dst.view.WordExact} :
    iprop(levAts (K (F := F)).L (K (F := F)).lev ∗ outFl A B d L t ∗ owesT (F := F) d L O W)
      ⊢ iprop((((oPts A B d L t ∗ rAny (F := F) d L t) ∗ outZ (F := F) d L t ∗ owesT (F := F) d L O W)
            -∗ wp frame (wpE (defs₀ (F := F)) 𝒱₀ (thr d L) none) Set.univ (k ⟨⟩) Q)
          -∗ wp frame (wpE (defs₀ (F := F)) 𝒱₀ (thr d L) none) Set.univ
            (.op (TpuEff.waitDma2 sem src dst h1 h2) k) Q) := by
  subst hd hm; exact wp_wait d L O W hO rfl

/-- Block `t`'s rows, gathered and waited for. -/
theorem wp_gather_at {α : Type} {Q : α → sProp 𝕄} (hB : ∀ j, (B j).toNat < 4096) (hO : ∀ g, O g none = 0) (t : Fin 2)
    {dst dst' : Memref sig .scVector .vmem S128x128 .f32} {offs : Memref sig .scVector .vmem S128 .i32}
    (hd : dst = rSlot t) (hd' : dst' = rSlot t) (hs : offs = sList t)
    {h0 : (thr d L).2.kind = .scVector} {h1 h1' : (xAll).view.WordExact} {h2 : EltTy.f32.bits = 32} {h3 : Space.hbm = .hbm ∨ Space.hbm = .shared}
    {h4 : S4096x128.StreamRows 0} {h5 : S128.numel = S128x128.size gathers_S4096x128_S128x128.axis'} {h6 : dst'.view.WordExact}
    {k : PUnit → Prog (TpuEff nD τ sig (Elt F) Λ₀ (thr d L).2) α} :
    iprop(levAts (K (F := F)).L (K (F := F)).lev ∗ xPts A d L q ∗ rAny (F := F) d L t ∗ sHolds B d L t t ∗ gZ (F := F) d L ∗ owesT (F := F) d L O W)
      ⊢ iprop(((rHolds A B d L t ∗ xPts A d L q ∗ sAny (F := F) d L t ∗ gZ (F := F) d L ∗ owesT (F := F) d L O W)
            -∗ wp frame (wpE (defs₀ (F := F)) 𝒱₀ (thr d L) none) Set.univ (k ⟨⟩) Q)
          -∗ wp frame (wpE (defs₀ (F := F)) 𝒱₀ (thr d L) none) Set.univ
            (SparseCore.enqueueIndirectGather h0 xAll dst gathers_S4096x128_S128x128 offs h5 gSem h1 h2 h3 h4
              >>= fun _ => .op (TpuEff.waitDma2 gSem xAll dst' h1' h6) k) Q) := by
  subst hd hd' hs
  iintro ⟨Hlv, Hx, Hr, Hs, Hz, HO⟩ Hk
  iapply (wp_gather A B d L q hB t) $$ [Hx Hr Hs Hz]
  · isplitl [Hx]; · iexact Hx
    isplitl [Hr]; · iexact Hr
    isplitl [Hs]; · iexact Hs
    iexact Hz
  iintro Hfl
  iapply (wp_wait d L O W hO rfl) $$ [Hlv Hfl HO]
  · isplitl [Hlv]; · iexact Hlv
    isplitl [Hfl]; · iexact Hfl
    iexact HO
  iintro ⟨⟨Hr, Hx, Hs⟩, Hz, HO⟩
  iapply Hk
  isplitl [Hr]; · iexact Hr
  isplitl [Hx]; · iexact Hx
  isplitl [Hs]; · iexact Hs
  isplitl [Hz]; · iexact Hz
  iexact HO

/-- The tile's body of the loop, at the launch's memrefs. -/
abbrev tripBody (v4 : BitVec 32) := k1_t1_body (F := F) L xV (Memref.isWhole_whole _) iV (Memref.isWhole_whole _) oV (Memref.isWhole_whole _)
  sV (Memref.isWhole_whole _) cc1_scoped1 rV (Memref.isWhole_whole _) cc1_scoped3 cc1_scoped4 v4

/-- The first block's number, as the program computes it. -/
abbrev v4w (L : grid1.Coords) : BitVec 32 :=
  Scalar.muli (Scalar.addi (Scalar.addi 0#32 (Scalar.muli (BitVec.ofNat 32 (L 1).val) 1#32)) (Scalar.muli (BitVec.ofNat 32 (L 0).val) 16#32)) 2#32

theorem wp_trip0 (hB : ∀ j, (B j).toNat < 4096) (hO : ∀ g, O g none = 0) :
    st0 A B d L q O W ⊢ wp frame (wpE (defs₀ (F := F)) 𝒱₀ (thr d L) none) Set.univ (tripBody L (v4w L) t0 (1#32, 0#32, 0#32, 0#32, 0#32))
      fun acc => iprop(⌜acc = (2#32, 1#32, 1#32, 0#32, 1#32)⌝ ∗ st1 A B d L q O W) := by
  unfold st0 st1 tripBody k1_t1_body
  simp only [k1_part1_eq_skeleton, k1_part2_eq_skeleton]
  unfold k1_part1_skel k1_part2_skel
  simp only [Prog.bind_lift, Prog.bind_op, Prog.bind_ret, Prog.bind_assoc, pure_bind, dif_pos (cond1_0 L), dif_pos (cond2_0 L), dif_pos (cond5_0 L), dif_neg (cond7_0 L), ite_self, SparseCore.waitIndirectGather]
  iintro ⟨#Hlv, Hin0, Hi1, Hs1, Hiz1, Hx, Hr0, Hr1, Hoz0, Hoz1, Hgz, Ho0, Ho1, HO⟩
  iapply (wp_assume 𝒱₀ _ none Set.univ chk3_0)
  iapply (wp_assume 𝒱₀ _ none Set.univ chk2_0)
  iapply (wp_assume 𝒱₀ _ none Set.univ (chk1_0 L))
  iapply (wp_fetch_at B d L 1 (iBlk_of L 1 (off5_at L) _) (sSlot_of 1 off4_at _) (inSem_of 1 off6_at _)) $$ [Hi1 Hs1 Hiz1]
  · isplitl [Hi1]; · iexact Hi1
    isplitl [Hs1]; · iexact Hs1
    iexact Hiz1
  iintro Hin1
  iapply (wp_waitIn_at B d L O W hO 0 (sSlot_of 0 off7_at0 _) (inSem_of 0 off9_at0 _)) $$ [Hin0 HO]
  · isplitl []; · iexact Hlv
    isplitl [Hin0]; · iexact Hin0
    iexact HO
  iintro ⟨⟨Hs0, Hi0⟩, Hiz0, HO⟩
  iapply (wp_gather_at A B d L q O W hB hO 0 (rSlot_of 0 off10_at0 _) (rSlot_of 0 off10_at0 _)
    (congrArg (fun m : Memref sig .scVector .vmem S1x128 .i32 => (m.slice (Rect.unit (s := S1x128) ![0, 0] S1x128.size inb_S1x128_S1x128_0_0) (fun _ => rfl)).squeeze S128 squeezes_S1x128_S128)
      (sSlot_of 0 off11_at0 _))) $$ [Hx Hr0 Hs0 Hgz HO]
  · isplitl []; · iexact Hlv
    isplitl [Hx]; · iexact Hx
    isplitl [Hr0]; · iexact Hr0
    isplitl [Hs0]; · iexact Hs0
    isplitl [Hgz]; · iexact Hgz
    iexact HO
  iintro ⟨Hr0, Hx, Hs0, Hgz, HO⟩
  iapply (wp_write_at A B d L 0 (rSlot_of 0 off12_at0 _) (oBlk_of L 0 (off13_at0 L) _) (outSem_of 0 off14_at0 _)) $$ [Hr0 Ho0 Hoz0]
  · isplitl [Hr0]; · iexact Hr0
    isplitl [Ho0]; · iexact Ho0
    iexact Hoz0
  iintro Hout0
  rw [Prog.pure_eq_ret, wp_ret]
  imodintro
  isplitr
  · ipureintro
    revert L; decide +kernel
  isplitl []; · iexact Hlv
  isplitl [Hin1]; · iexact Hin1
  isplitl [Hi0]; · iexact Hi0
  isplitl [Hs0]; · iexact Hs0
  isplitl [Hiz0]; · iexact Hiz0
  isplitl [Hx]; · iexact Hx
  isplitl [Hout0]; · iexact Hout0
  isplitl [Hr1]; · iexact Hr1
  isplitl [Hoz1]; · iexact Hoz1
  isplitl [Hgz]; · iexact Hgz
  isplitl [Ho1]; · iexact Ho1
  iexact HO

theorem wp_trip1 (hB : ∀ j, (B j).toNat < 4096) (hO : ∀ g, O g none = 0) :
    st1 A B d L q O W ⊢ wp frame (wpE (defs₀ (F := F)) 𝒱₀ (thr d L) none) Set.univ (tripBody L (v4w L) t1 (2#32, 1#32, 1#32, 0#32, 1#32))
      fun acc => iprop(⌜acc = (2#32, 2#32, 2#32, 1#32, 0#32)⌝ ∗ st2 A B d L q O W) := by
  unfold st1 st2 tripBody k1_t1_body
  simp only [k1_part1_eq_skeleton, k1_part2_eq_skeleton]
  unfold k1_part1_skel k1_part2_skel
  simp only [Prog.bind_lift, Prog.bind_op, Prog.bind_ret, Prog.bind_assoc, pure_bind, dif_neg (cond1_1 L), dif_pos (cond2_1 L), dif_pos (cond5_1 L), dif_pos (cond7_1 L), ite_self, SparseCore.waitIndirectGather]
  iintro ⟨#Hlv, Hin1, Hi0, Hs0, Hiz0, Hx, Hout0, Hr1, Hoz1, Hgz, Ho1, HO⟩
  iapply (wp_assume 𝒱₀ _ none Set.univ chk3_1)
  iapply (wp_assume 𝒱₀ _ none Set.univ chk2_1)
  iapply (wp_assume 𝒱₀ _ none Set.univ (chk1_1 L))
  iapply (wp_waitIn_at B d L O W hO 1 (sSlot_of 1 off7_at1 _) (inSem_of 1 off9_at1 _)) $$ [Hin1 HO]
  · isplitl []; · iexact Hlv
    isplitl [Hin1]; · iexact Hin1
    iexact HO
  iintro ⟨⟨Hs1, Hi1⟩, Hiz1, HO⟩
  iapply (wp_gather_at A B d L q O W hB hO 1 (rSlot_of 1 off10_at1 _) (rSlot_of 1 off10_at1 _)
    (congrArg (fun m : Memref sig .scVector .vmem S1x128 .i32 => (m.slice (Rect.unit (s := S1x128) ![0, 0] S1x128.size inb_S1x128_S1x128_0_0) (fun _ => rfl)).squeeze S128 squeezes_S1x128_S128)
      (sSlot_of 1 off11_at1 _))) $$ [Hx Hr1 Hs1 Hgz HO]
  · isplitl []; · iexact Hlv
    isplitl [Hx]; · iexact Hx
    isplitl [Hr1]; · iexact Hr1
    isplitl [Hs1]; · iexact Hs1
    isplitl [Hgz]; · iexact Hgz
    iexact HO
  iintro ⟨Hr1, Hx, Hs1, Hgz, HO⟩
  iapply (wp_write_at A B d L 1 (rSlot_of 1 off12_at1 _) (oBlk_of L 1 (off13_at1 L) _) (outSem_of 1 off14_at1 _)) $$ [Hr1 Ho1 Hoz1]
  · isplitl [Hr1]; · iexact Hr1
    isplitl [Ho1]; · iexact Ho1
    iexact Hoz1
  iintro Hout1
  iapply (wp_waitOut_at A B d L O W hO 0 (oBlk_of L 0 (off16_at L) _) (outSem_of 0 off17_at _)) $$ [Hout0 HO]
  · isplitl []; · iexact Hlv
    isplitl [Hout0]; · iexact Hout0
    iexact HO
  iintro ⟨⟨Ho0, Hr0⟩, Hoz0, HO⟩
  rw [Prog.pure_eq_ret, wp_ret]
  imodintro
  isplitr
  · ipureintro
    revert L; decide +kernel
  isplitl []; · iexact Hlv
  isplitl [Hout1]; · iexact Hout1
  isplitl [Hi0]; · iexact Hi0
  isplitl [Hi1]; · iexact Hi1
  isplitl [Hs0]; · iexact Hs0
  isplitl [Hs1]; · iexact Hs1
  isplitl [Hiz0]; · iexact Hiz0
  isplitl [Hiz1]; · iexact Hiz1
  isplitl [Hx]; · iexact Hx
  isplitl [Hr0]; · iexact Hr0
  isplitl [Hoz0]; · iexact Hoz0
  isplitl [Hgz]; · iexact Hgz
  isplitl [Ho0]; · iexact Ho0
  iexact HO

/-! ## The whole run -/

/-- What the tile holds before trip `k`, with the words the loop carries. -/
def inv (k : ℕ) (acc : BitVec 32 × BitVec 32 × BitVec 32 × BitVec 32 × BitVec 32) : sProp 𝕄 :=
  match k with
  | 0 => iprop(⌜acc = (1#32, 0#32, 0#32, 0#32, 0#32)⌝ ∗ st0 A B d L q O W)
  | 1 => iprop(⌜acc = (2#32, 1#32, 1#32, 0#32, 1#32)⌝ ∗ st1 A B d L q O W)
  | _ => iprop(⌜acc = (2#32, 2#32, 2#32, 1#32, 0#32)⌝ ∗ st2 A B d L q O W)

theorem inv_step (hB : ∀ j, (B j).toNat < 4096) (hO : ∀ g, O g none = 0) (k : Fin k1_t1_loop.trips) (acc : BitVec 32 × BitVec 32 × BitVec 32 × BitVec 32 × BitVec 32) :
    inv A B d L q O W k acc ⊢ wp frame (wpE (defs₀ (F := F)) 𝒱₀ (thr d L) none) Set.univ (tripBody L (v4w L) k acc)
      (inv A B d L q O W (k.val + 1)) := by
  have hk : k = t0 ∨ k = t1 := by
    obtain ⟨k, h⟩ := k
    have h2 : k < 2 := trips_eq ▸ h
    rcases (by omega : k = 0 ∨ k = 1) with rfl | rfl
    · exact .inl rfl
    · exact .inr rfl
  rcases hk with rfl | rfl
  · show iprop(⌜acc = (1#32, 0#32, 0#32, 0#32, 0#32)⌝ ∗ st0 A B d L q O W) ⊢ _
    iintro ⟨%h, H⟩
    subst h
    iapply (wp_trip0 A B d L q O W hB hO) $$ H
  · show iprop(⌜acc = (2#32, 1#32, 1#32, 0#32, 1#32)⌝ ∗ st1 A B d L q O W) ⊢ _
    iintro ⟨%h, H⟩
    subst h
    iapply (wp_trip1 A B d L q O W hB hO) $$ H

/-- The tile's kernel, from what it is handed to what it hands back: both blocks of the result at the gathered rows. -/
theorem wp_kernel (hB : ∀ j, (B j).toNat < 4096) (hO : ∀ g, O g none = 0) :
    iprop(levAts (K (F := F)).L (K (F := F)).lev ∗ (iPts B d L 0 ∗ iPts B d L 1 ∗ xPts A d L q ∗ oAny (F := F) d L 0 ∗ oAny (F := F) d L 1)
        ∗ (sAny (F := F) d L 0 ∗ sAny (F := F) d L 1 ∗ rAny (F := F) d L 0 ∗ rAny (F := F) d L 1)
        ∗ (inZ (F := F) d L 0 ∗ inZ (F := F) d L 1 ∗ outZ (F := F) d L 0 ∗ outZ (F := F) d L 1 ∗ gZ (F := F) d L)
        ∗ owesT (F := F) d L O W)
      ⊢ wp frame (wpE (defs₀ (F := F)) 𝒱₀ (thr d L) none) Set.univ
          (cc1_gather_kernel L xV (Memref.isWhole_whole _) iV (Memref.isWhole_whole _) oV (Memref.isWhole_whole _)
            sV (Memref.isWhole_whole _) cc1_scoped1 rV (Memref.isWhole_whole _) cc1_scoped3 cc1_scoped4)
          fun _ => iprop((iPts B d L 0 ∗ iPts B d L 1 ∗ xPts A d L q ∗ oPts A B d L 0 ∗ oPts A B d L 1)
            ∗ (sAny (F := F) d L 0 ∗ sAny (F := F) d L 1 ∗ rAny (F := F) d L 0 ∗ rAny (F := F) d L 1)
            ∗ (inZ (F := F) d L 0 ∗ inZ (F := F) d L 1 ∗ outZ (F := F) d L 0 ∗ outZ (F := F) d L 1 ∗ gZ (F := F) d L)
            ∗ owesT (F := F) d L O W) := by
  simp only [cc1_gather_kernel_eq_skeleton]
  unfold cc1_gather_kernel_skel
  simp only [k1_part3_eq_skeleton, k1_part4_eq_skeleton]
  unfold k1_part3_skel k1_part4_skel
  simp only [Prog.bind_lift, Prog.bind_op, Prog.bind_ret, Prog.bind_assoc, pure_bind]
  iintro ⟨#Hlv, ⟨Hi0, Hi1, Hx, Ho0, Ho1⟩, ⟨Hs0, Hs1, Hr0, Hr1⟩, ⟨Hiz0, Hiz1, Hoz0, Hoz1, Hgz⟩, HO⟩
  iapply (wp_fetch_at B d L 0 (iBlk_of L 0 (off2_at L) _) (sSlot_of 0 off1_at _) (inSem_of 0 off3_at _)) $$ [Hi0 Hs0 Hiz0]
  · isplitl [Hi0]; · iexact Hi0
    isplitl [Hs0]; · iexact Hs0
    iexact Hiz0
  iintro Hin0
  iapply (Scf.wp_for_bind frame (wpE (defs₀ (F := F)) 𝒱₀ (thr d L) none) Set.univ _ _ _ _ _ _ (I := inv A B d L q O W)
    (hbody := inv_step A B d L q O W hB hO)) $$ [Hin0 Hi1 Hx Ho0 Ho1 Hs1 Hr0 Hr1 Hiz1 Hoz0 Hoz1 Hgz HO]
  · iapply (show st0 A B d L q O W ⊢ inv A B d L q O W 0 (1#32, 0#32, 0#32, 0#32, 0#32) from by
      show _ ⊢ iprop(⌜_⌝ ∗ _)
      iintro H
      isplitr
      · ipureintro; rfl
      iexact H)
    unfold st0
    isplitl []; · iexact Hlv
    isplitl [Hin0]; · iexact Hin0
    isplitl [Hi1]; · iexact Hi1
    isplitl [Hs1]; · iexact Hs1
    isplitl [Hiz1]; · iexact Hiz1
    isplitl [Hx]; · iexact Hx
    isplitl [Hr0]; · iexact Hr0
    isplitl [Hr1]; · iexact Hr1
    isplitl [Hoz0]; · iexact Hoz0
    isplitl [Hoz1]; · iexact Hoz1
    isplitl [Hgz]; · iexact Hgz
    isplitl [Ho0]; · iexact Ho0
    isplitl [Ho1]; · iexact Ho1
    iexact HO
  iintro %acc HI
  ihave HI' := (show inv A B d L q O W (Scf.trips _ _ _) acc ⊢ iprop(⌜acc = (2#32, 2#32, 2#32, 1#32, 0#32)⌝ ∗ st2 A B d L q O W) from by
    rw [show Scf.trips k1_t1_loop.lb k1_t1_loop.ub k1_t1_loop.st = 2 from trips_eq]; exact .rfl) $$ HI
  icases HI' with ⟨%hacc, HI⟩
  subst hacc
  unfold st2
  icases HI with ⟨-, Hout1, Hi0, Hi1, Hs0, Hs1, Hiz0, Hiz1, Hx, Hr0, Hoz0, Hgz, Ho0, HO⟩
  iapply (wp_assume 𝒱₀ _ none Set.univ (chk5_at L))
  iapply (wp_assume 𝒱₀ _ none Set.univ chk4_at)
  iapply (wp_waitOut_at A B d L O W hO 1 (oBlk_of L 1 (off19_at L) _) (outSem_of 1 off20_at _)) $$ [Hout1 HO]
  · isplitl []; · iexact Hlv
    isplitl [Hout1]; · iexact Hout1
    iexact HO
  iintro ⟨⟨Ho1, Hr1⟩, Hoz1, HO⟩
  rw [Prog.pure_eq_ret, wp_ret]
  imodintro
  isplitl [Hi0 Hi1 Hx Ho0 Ho1]
  · isplitl [Hi0]; · iexact Hi0
    isplitl [Hi1]; · iexact Hi1
    isplitl [Hx]; · iexact Hx
    isplitl [Ho0]; · iexact Ho0
    iexact Ho1
  isplitl [Hs0 Hs1 Hr0 Hr1]
  · isplitl [Hs0]; · iexact Hs0
    isplitl [Hs1]; · iexact Hs1
    isplitl [Hr0]; · iexact Hr0
    iexact Hr1
  isplitl [Hiz0 Hiz1 Hoz0 Hoz1 Hgz]
  · isplitl [Hiz0]; · iexact Hiz0
    isplitl [Hiz1]; · iexact Hiz1
    isplitl [Hoz0]; · iexact Hoz0
    isplitl [Hoz1]; · iexact Hoz1
    iexact Hgz
  iexact HO

end Cert.Proof

end
-- ==== Proof.Call.lean ====
/-
  The gather call: what the TensorCore hands the two SparseCores and gets back. The table goes out in 32 shares, the
  index list and the result in 64 blocks, two to a tile; each tile brings its blocks of the result back at the gathered
  rows, and the blocks join to the whole result.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## A tile's own buffers and cells -/

section Own

variable (d : Dev nD) (L : grid1.Coords)

theorem sSlot_compl : (sSlot 1).view.set = Finset.univ \ (sSlot 0).view.set := by
  have h : ∀ b : Fin 2, (sSlot b).view.set = (Rect.unit (s := S2x1x128) ![b.val, 0, 0] S1x1x128.size (sSlot_inb b)).set := fun b => by
    show (((View.whole (cc1_scoped0 : Ref sig .scVector)).slice _).reshape _ _).set = _
    rw [View.set_reshape, View.set_slice]; exact Finset.map_refl
  rw [h, h]
  ext j
  simp only [Finset.mem_sdiff, Finset.mem_univ, true_and, Rect.mem_set_unit]
  have h0 : (j 0).val < 2 := (j 0).isLt
  have h1 : (j 1).val < 1 := (j 1).isLt
  have h2 : (j 2).val < 128 := (j 2).isLt
  constructor
  · intro hj hc
    have := (hj 0).1; have := (hc 0).2
    change 1 ≤ (j 0).val at *
    change (j 0).val < 0 + 1 at *
    omega
  · intro hc
    by_contra hj
    refine hc fun a => ?_
    have hz : (j 0).val = 0 := by
      by_contra hne
      refine hj fun a => ?_
      fin_cases a
      · show 1 ≤ (j 0).val ∧ (j 0).val < 1 + 1; omega
      · show 0 ≤ (j 1).val ∧ (j 1).val < 0 + 1; omega
      · show 0 ≤ (j 2).val ∧ (j 2).val < 0 + 128; omega
    fin_cases a
    · show 0 ≤ (j 0).val ∧ (j 0).val < 0 + 1; omega
    · show 0 ≤ (j 1).val ∧ (j 1).val < 0 + 1; omega
    · show 0 ≤ (j 2).val ∧ (j 2).val < 0 + 128; omega

theorem rSlot_compl : (rSlot 1).view.set = Finset.univ \ (rSlot 0).view.set := by
  have h : ∀ b : Fin 2, (rSlot b).view.set = (Rect.unit (s := S2x128x128) ![b.val, 0, 0] S1x128x128.size (rSlot_inb b)).set := fun b => by
    show (((View.whole (cc1_scoped2 : Ref sig .scVector)).slice _).reshape _ _).set = _
    rw [View.set_reshape, View.set_slice]; exact Finset.map_refl
  rw [h, h]
  ext j
  simp only [Finset.mem_sdiff, Finset.mem_univ, true_and, Rect.mem_set_unit]
  have h0 : (j 0).val < 2 := (j 0).isLt
  have h1 : (j 1).val < 128 := (j 1).isLt
  have h2 : (j 2).val < 128 := (j 2).isLt
  constructor
  · intro hj hc
    have := (hj 0).1; have := (hc 0).2
    change 1 ≤ (j 0).val at *
    change (j 0).val < 0 + 1 at *
    omega
  · intro hc
    by_contra hj
    refine hc fun a => ?_
    have hz : (j 0).val = 0 := by
      by_contra hne
      refine hj fun a => ?_
      fin_cases a
      · show 1 ≤ (j 0).val ∧ (j 0).val < 1 + 1; omega
      · show 0 ≤ (j 1).val ∧ (j 1).val < 0 + 128; omega
      · show 0 ≤ (j 2).val ∧ (j 2).val < 0 + 128; omega
    fin_cases a
    · show 0 ≤ (j 0).val ∧ (j 0).val < 0 + 1; omega
    · show 0 ≤ (j 1).val ∧ (j 1).val < 0 + 128; omega
    · show 0 ≤ (j 2).val ∧ (j 2).val < 0 + 128; omega

/-- A buffer at some contents is two complementary parts of it, each at some contents. -/
theorem any_split (ℓ : Loc nD τ sig) (I J : Finset (Idx ℓ)) (h : J = Finset.univ \ I) :
    (iprop(∃ f, ℓ ↦{fullShare} f) : sProp 𝕄) = iprop((∃ f, ℓ ↦[I]{fullShare} f) ∗ ∃ f, ℓ ↦[J]{fullShare} f) := by
  classical
  subst h
  have h1 : (iprop(∃ f, ℓ ↦{fullShare} f) : sProp 𝕄) ⊢ iprop((∃ f, ℓ ↦[I]{fullShare} f) ∗ ∃ f, ℓ ↦[Finset.univ \ I]{fullShare} f) := by
    iintro ⟨%f, H⟩
    ihave H' := (pointsTo_split_subset (q := fullShare) (f := f) (S := Finset.univ) (Finset.subset_univ I)).1 $$ H
    icases H' with ⟨H1, H2⟩
    isplitl [H1]
    · iexists f; iexact H1
    · iexists f; iexact H2
  have h2 : iprop((∃ f, ℓ ↦[I]{fullShare} f) ∗ ∃ f, ℓ ↦[Finset.univ \ I]{fullShare} f) ⊢ (iprop(∃ f, ℓ ↦{fullShare} f) : sProp 𝕄) := by
    iintro ⟨⟨%f, H1⟩, ⟨%g, H2⟩⟩
    iexists (fun i => if i ∈ I then f i else g i)
    iapply (pointsTo_split_subset (q := fullShare) (f := fun i => if i ∈ I then f i else g i) (S := Finset.univ) (Finset.subset_univ I)).2
    isplitl [H1]
    · iapply (Entails.of_eq (pointsTo_congr (fun i hi => by simp [hi]))) $$ H1
    · iapply (Entails.of_eq (pointsTo_congr (fun i hi => by simp [(Finset.mem_sdiff.mp hi).2]))) $$ H2
  exact BI.Entails.antisymm h1 h2

/-- The tile's five cells. -/
abbrev cell (d : Dev nD) (L : grid1.Coords) (s : DmaSem sig) : GSem nD τ sig := (thr d L, .dma s)

abbrev semRest (d : Dev nD) (L : grid1.Coords) : Finset (GSem nD τ sig) :=
  (((((ownCells (thr d L)).erase (cell d L (inSem 0))).erase (cell d L (inSem 1))).erase (cell d L (outSem 0))).erase (cell d L (outSem 1))).erase (cell d L gSem)

theorem cell_own : ∀ s ∈ ([inSem 0, inSem 1, outSem 0, outSem 1, gSem] : List (DmaSem sig)), cell d L s ∈ ownCells (thr d L) := by
  have h : ∀ s ∈ ([inSem 0, inSem 1, outSem 0, outSem 1, gSem] : List (DmaSem sig)), (SemLoc.dma s : SemLoc sig).isScoped .scVector = true := by decide
  exact fun s hs => mem_ownCells.mpr ⟨rfl, h s hs⟩
theorem cell_ne {s s' : DmaSem sig} (h : s ≠ s') : cell d L s ≠ cell d L s' :=
  fun e => h (by have := (Prod.mk.inj e).2; exact SemLoc.dma.inj this)

theorem ownSems_tile : (ownSems0 (thr d L) : sProp 𝕄)
    = iprop(inZ (F := F) d L 0 ∗ inZ (F := F) d L 1 ∗ outZ (F := F) d L 0 ∗ outZ (F := F) d L 1 ∗ gZ (F := F) d L
        ∗ bigSep (semRest d L) fun g => semVal g 0) := by
  have hi : inSem 1 ≠ inSem 0 := by decide
  have ho : outSem 1 ≠ outSem 0 := by decide
  have h20 : outSem 0 ≠ inSem 0 := by decide
  have h21 : outSem 0 ≠ inSem 1 := by decide
  have h30 : outSem 1 ≠ inSem 0 := by decide
  have h31 : outSem 1 ≠ inSem 1 := by decide
  have h40 : gSem ≠ inSem 0 := by decide
  have h41 : gSem ≠ inSem 1 := by decide
  have h42 : gSem ≠ outSem 0 := by decide
  have h43 : gSem ≠ outSem 1 := by decide
  have m := cell_own d L
  unfold SparseCore.Cfg.ownSems0
  rw [SparseCore.bigSep_erase' (m (inSem 0) (by simp)),
    SparseCore.bigSep_erase' (Finset.mem_erase.mpr ⟨cell_ne d L hi, m (inSem 1) (by simp)⟩),
    SparseCore.bigSep_erase' (Finset.mem_erase.mpr ⟨cell_ne d L h21, Finset.mem_erase.mpr ⟨cell_ne d L h20, m (outSem 0) (by simp)⟩⟩),
    SparseCore.bigSep_erase' (Finset.mem_erase.mpr ⟨cell_ne d L ho, Finset.mem_erase.mpr ⟨cell_ne d L h31, Finset.mem_erase.mpr ⟨cell_ne d L h30, m (outSem 1) (by simp)⟩⟩⟩),
    SparseCore.bigSep_erase' (Finset.mem_erase.mpr ⟨cell_ne d L h43, Finset.mem_erase.mpr ⟨cell_ne d L h42, Finset.mem_erase.mpr ⟨cell_ne d L h41, Finset.mem_erase.mpr ⟨cell_ne d L h40, m gSem (by simp)⟩⟩⟩⟩)]

abbrev bufRest (d : Dev nD) (L : grid1.Coords) : Finset (DevRef τ sig) :=
  ((ownRefs (τ := τ) (thr d L).2).erase ((thr d L).2.devRef cc1_scoped0)).erase ((thr d L).2.devRef cc1_scoped2)

theorem ownBufs_tile : (ownBufs (thr d L) : sProp 𝕄)
    = iprop(sAny (F := F) d L 0 ∗ sAny (F := F) d L 1 ∗ rAny (F := F) d L 0 ∗ rAny (F := F) d L 1
        ∗ bigSep (bufRest d L) fun b => iprop(∃ f, ((d, b) : Loc nD τ sig) ↦{fullShare} f)) := by
  have h : (ownBufs (thr d L) : sProp 𝕄)
      = iprop((∃ f, (thr d L).loc cc1_scoped0 ↦{fullShare} f) ∗ (∃ f, (thr d L).loc cc1_scoped2 ↦{fullShare} f)
        ∗ bigSep (bufRest d L) fun b => iprop(∃ f, ((d, b) : Loc nD τ sig) ↦{fullShare} f)) := by
    unfold SparseCore.Cfg.ownBufs
    refine (SparseCore.bigSep_erase' (SparseCore.Cfg.mem_ownRefs_of_owner (p := (thr d L).2)
      (b := (thr d L).2.devRef cc1_scoped0) rfl)).trans ?_
    rw [SparseCore.bigSep_erase' (Finset.mem_erase.mpr ⟨fun e => absurd (Proc.devRef_injective _ e) (show (cc1_scoped2 : Ref sig .scVector) ≠ cc1_scoped0 by decide),
      SparseCore.Cfg.mem_ownRefs_of_owner (p := (thr d L).2) (b := (thr d L).2.devRef cc1_scoped2) rfl⟩)]
  rw [h, any_split ((thr d L).loc cc1_scoped0) (sSlot 0).view.set (sSlot 1).view.set sSlot_compl,
    any_split ((thr d L).loc cc1_scoped2) (rSlot 0).view.set (rSlot 1).view.set rSlot_compl]
  have assoc4 : ∀ P1 P2 P3 P4 P5 : sProp 𝕄, iprop((P1 ∗ P2) ∗ (P3 ∗ P4) ∗ P5) = iprop(P1 ∗ P2 ∗ P3 ∗ P4 ∗ P5) := by
    intro P1 P2 P3 P4 P5
    have h1 : iprop((P1 ∗ P2) ∗ (P3 ∗ P4) ∗ P5) ⊢ iprop(P1 ∗ P2 ∗ P3 ∗ P4 ∗ P5) := by
      iintro ⟨⟨H1, H2⟩, ⟨H3, H4⟩, H5⟩
      isplitl [H1]; · iexact H1
      isplitl [H2]; · iexact H2
      isplitl [H3]; · iexact H3
      isplitl [H4]; · iexact H4
      iexact H5
    have h2 : iprop(P1 ∗ P2 ∗ P3 ∗ P4 ∗ P5) ⊢ iprop((P1 ∗ P2) ∗ (P3 ∗ P4) ∗ P5) := by
      iintro ⟨H1, H2, H3, H4, H5⟩
      isplitl [H1 H2]
      · isplitl [H1]; · iexact H1
        iexact H2
      isplitl [H3 H4]
      · isplitl [H3]; · iexact H3
        iexact H4
      iexact H5
    exact BI.Entails.antisymm h1 h2
  exact assoc4 _ _ _ _ _

end Own

/-! ## What the call hands a tile, and gets back -/

/-- The tile of SparseCore `c` and subcore `i`. -/
def tile (c : Fin (grid1.bound 0)) (i : Fin (grid1.bound 1)) : grid1.Coords :=
  fun | 0 => c | 1 => i | ⟨_ + 2, h⟩ => absurd h (Nat.not_lt.2 (Nat.le_add_left _ _))

/-- Tile `L`'s share of the table. -/
def xq (L : grid1.Coords) : PosShare TreeShare := pieceOf fullShare (2 * 16) (by decide) (finProdFinEquiv ((L 0 : Fin 2), (L 1 : Fin 16)))

section Pays

variable (A : Dev nD → FVec F S4096x128 .f32) (B : Dev nD → IVec S1x8192 32)

abbrev iAt (d : Dev nD) (L : grid1.Coords) (t : Fin 2) : sProp 𝕄 := iLoc d ↦[(iBlk L t).view.set]{fullShare} B d
abbrev xAt (d : Dev nD) (L : grid1.Coords) : sProp 𝕄 := xLoc d ↦{xq L} A d
abbrev oAt (d : Dev nD) (L : grid1.Coords) (t : Fin 2) : sProp 𝕄 := oLoc d ↦[(oBlk L t).view.set]{fullShare} gath (A d) (B d)
abbrev oAt' (d : Dev nD) (L : grid1.Coords) (t : Fin 2) : sProp 𝕄 := iprop(∃ f : Buf (Elt F) (oLoc d), oLoc d ↦[(oBlk L t).view.set]{fullShare} f)

/-- What tile `L` takes: its two blocks of the index list, its share of the table, its two blocks of the result at some
    contents. What it brings back: the same, the blocks of the result at the gathered rows. -/
def goP (d : Dev nD) (L : grid1.Coords) : sProp 𝕄 :=
  iprop(iAt (F := F) B d L 0 ∗ iAt (F := F) B d L 1 ∗ xAt A d L ∗ oAt' (F := F) d L 0 ∗ oAt' (F := F) d L 1)
def tdP (d : Dev nD) (L : grid1.Coords) : sProp 𝕄 :=
  iprop(iAt (F := F) B d L 0 ∗ iAt (F := F) B d L 1 ∗ xAt A d L ∗ oAt A B d L 0 ∗ oAt A B d L 1)

/-- The one call hands each SparseCore what its tiles take, and gets back what they bring. -/
def P : (K (F := F)).Pay (nD := nD) (Val := Elt F) (Name := ℕ) (U := UU) where
  st := fun q d c => match q with | 0 => bigSep Finset.univ fun i : Fin (grid1.bound 1) => goP A B d (tile c i)
  dn := fun q d c => match q with | 0 => bigSep Finset.univ fun i : Fin (grid1.bound 1) => tdP A B d (tile c i)
  go := fun q d c i => match q with | 0 => goP A B d (tile c i)
  td := fun q d c i => match q with | 0 => tdP A B d (tile c i)
  x := fun _ _ => iprop(emp)

instance goP_storable (d : Dev nD) (L : grid1.Coords) : BI.Storable (upEmb : UEmb _ 𝕄) (goP A B d L) := by unfold goP; infer_instance
instance tdP_storable (d : Dev nD) (L : grid1.Coords) : BI.Storable (upEmb : UEmb _ 𝕄) (tdP A B d L) := by unfold tdP; infer_instance

instance P_storable : (P (F := F) A B).IsStorable where
  st q d c := match q with
    | 0 => (inferInstance : BI.Storable (upEmb : UEmb _ 𝕄) (bigSep Finset.univ fun i : Fin (grid1.bound 1) => goP A B d (tile c i)))
  dn q d c := match q with
    | 0 => (inferInstance : BI.Storable (upEmb : UEmb _ 𝕄) (bigSep Finset.univ fun i : Fin (grid1.bound 1) => tdP A B d (tile c i)))
  go q d c i := match q with | 0 => goP_storable A B d (tile c i)
  td q d c i := match q with | 0 => tdP_storable A B d (tile c i)

variable [FloatOps F]

/-- The tile's task, as the call asks it. -/
theorem tile_body (hF : (K (F := F)).Facts) (hB : ∀ d j, (B d j).toNat < 4096) (d : Dev nD) (L : grid1.Coords)
    (O : CellTallies nD τ sig (HIx 1)) (W : Waits sig (HIx 1)) (hO : ∀ g, O g none = 0) :
    iprop(levAts (K (F := F)).L (K (F := F)).lev ∗ emp ∗ goP A B d L
        ∗ scopedBufs (thr d L) ∗ scopedSems0 (thr d L) ∗ owes (thr d L) O W)
      ⊢ wp frame (wpE (defs₀ (F := F)) 𝒱₀ (thr d L) none) Set.univ
          (cc1_gather_kernel L xV (Memref.isWhole_whole _) iV (Memref.isWhole_whole _) oV (Memref.isWhole_whole _)
            sV (Memref.isWhole_whole _) cc1_scoped1 rV (Memref.isWhole_whole _) cc1_scoped3 cc1_scoped4)
          fun _ => iprop(tdP A B d L ∗ scopedBufs (thr d L) ∗ scopedSems0 (thr d L)
            ∗ ∃ W', ⌜∀ p ∈ W', p ∈ W ∨ p.2 = none ∨ p.2 = some 0⌝ ∗ owes (thr d L) O W') := by
  rw [(K (F := F)).scopedBufs_V hF d (cV L) (jV L), SparseCore.Cfg.scopedSems0_V (Val := Elt F) d (cV L) (jV L), ownSems_tile, ownBufs_tile]
  have e1 : goP A B d L = iprop(iPts (F := F) (B d) d L 0 ∗ iPts (F := F) (B d) d L 1 ∗ xPts (A d) d L (xq L) ∗ oAny (F := F) d L 0 ∗ oAny (F := F) d L 1) := rfl
  have e2 : tdP A B d L = iprop(iPts (F := F) (B d) d L 0 ∗ iPts (F := F) (B d) d L 1 ∗ xPts (A d) d L (xq L) ∗ oPts (A d) (B d) d L 0 ∗ oPts (A d) (B d) d L 1) := rfl
  rw [e1, e2]
  iintro ⟨#Hlv, -, Hgo, ⟨Hs0, Hs1, Hr0, Hr1, Hbufs⟩, ⟨Hz1, Hz2, Hz3, Hz4, Hz5, Hsems⟩, HO⟩
  iapply (wp_wand frame (wpE (defs₀ (F := F)) 𝒱₀ (thr d L) none) Set.univ (Q := fun _ => iprop((iPts (F := F) (B d) d L 0 ∗ iPts (F := F) (B d) d L 1 ∗ xPts (A d) d L (xq L) ∗ oPts (A d) (B d) d L 0 ∗ oPts (A d) (B d) d L 1)
            ∗ (sAny (F := F) d L 0 ∗ sAny (F := F) d L 1 ∗ rAny (F := F) d L 0 ∗ rAny (F := F) d L 1)
            ∗ (inZ (F := F) d L 0 ∗ inZ (F := F) d L 1 ∗ outZ (F := F) d L 0 ∗ outZ (F := F) d L 1 ∗ gZ (F := F) d L)
            ∗ owesT (F := F) d L O W))) $$ [Hgo Hs0 Hs1 Hr0 Hr1 Hz1 Hz2 Hz3 Hz4 Hz5 HO]
  · iapply (wp_kernel (A d) (B d) d L (xq L) O W (hB d) hO)
    isplitl []; · iexact Hlv
    isplitl [Hgo]; · iexact Hgo
    isplitl [Hs0 Hs1 Hr0 Hr1]
    · isplitl [Hs0]; · iexact Hs0
      isplitl [Hs1]; · iexact Hs1
      isplitl [Hr0]; · iexact Hr0
      iexact Hr1
    isplitl [Hz1 Hz2 Hz3 Hz4 Hz5]
    · isplitl [Hz1]; · iexact Hz1
      isplitl [Hz2]; · iexact Hz2
      isplitl [Hz3]; · iexact Hz3
      isplitl [Hz4]; · iexact Hz4
      iexact Hz5
    iexists W
    isplitr
    · ipureintro; exact fun p hp => .inl hp
    iexact HO
  iintro %_ ⟨Htd, ⟨Hs0, Hs1, Hr0, Hr1⟩, ⟨Hz1, Hz2, Hz3, Hz4, Hz5⟩, ⟨%W', %hW', HO⟩⟩
  isplitl [Htd]; · iexact Htd
  isplitl [Hs0 Hs1 Hr0 Hr1 Hbufs]
  · isplitl [Hs0]; · iexact Hs0
    isplitl [Hs1]; · iexact Hs1
    isplitl [Hr0]; · iexact Hr0
    isplitl [Hr1]; · iexact Hr1
    iexact Hbufs
  isplitl [Hz1 Hz2 Hz3 Hz4 Hz5 Hsems]
  · isplitl [Hz1]; · iexact Hz1
    isplitl [Hz2]; · iexact Hz2
    isplitl [Hz3]; · iexact Hz3
    isplitl [Hz4]; · iexact Hz4
    isplitl [Hz5]; · iexact Hz5
    iexact Hsems
  iexists W'
  isplitr
  · ipureintro; exact fun p hp => (hW' p hp).imp_right Or.inl
  iexact HO

theorem defs₀_vector (c : Fin τ.nSC) (s : Fin τ.nSub) :
    defs₀ (F := F) (.scVector c s) 1 ()
      = SparseCore.onTile hcore1 hsub1 (fun c s => cc1_gather_kernel (tile c s)
          xV (Memref.isWhole_whole _) iV (Memref.isWhole_whole _) oV (Memref.isWhole_whole _)
          sV (Memref.isWhole_whole _) cc1_scoped1 rV (Memref.isWhole_whole _) cc1_scoped3 cc1_scoped4) ⟨⟩ c s := rfl

set_option maxRecDepth 16384 in
theorem tileObl (hF : (K (F := F)).Facts) (hB : ∀ d j, (B d j).toNat < 4096) : (K (F := F)).TileObl (D (F := F)) 𝒱 (P A B) v₀ 0 := by
  intro d c i O W hO _ _
  simp only [show (P A B).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A B hF hB d (tile ⟨_, hci.1⟩ ⟨_, hci.2⟩) O W hO

theorem vecSplit : (K (F := F)).VecSplit' (P A B) 0 := by
  intro d c
  show (bigSep Finset.univ fun i : Fin (grid1.bound 1) => goP A B d (tile c i)) ⊢ |={Set.univ}=> iprop(
      (bigSep Finset.univ fun i : Fin (grid1.bound 1) => goP A B d (tile c i))
      ∗ ((bigSep Finset.univ fun i : Fin (grid1.bound 1) => tdP A B d (tile c i))
          -∗ bigSep Finset.univ fun i : Fin (grid1.bound 1) => tdP A B d (tile c i)))
  iintro H
  imodintro
  isplitl [H]; · iexact H
  iintro H
  iexact H

end Pays

end Cert.Proof

end
-- ==== Proof.Split.lean ====
/-
  The call's three arrays as the tiles' parts: the blocks of the index list and of the result, two to a tile, are all of
  them and apart; the table's 32 shares are the whole share.
-/
module

public import proofs.«01_k».proof.Proof.Call

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- A tile and a trip. -/
abbrev TT : Type := (Fin 2 × Fin 16) × Fin 2
abbrev tileP (p : Fin 2 × Fin 16) : grid1.Coords := tile p.1 p.2

theorem mem_iBlk (p : TT) (j : S1x8192.Idx) : j ∈ (iBlk (tileP p.1) p.2).view.set ↔ (j 1).val / 128 = 2 * (p.1.2.val + 16 * p.1.1.val) + p.2.val := by
  have e : (iBlk (tileP p.1) p.2).view.set = (Rect.unit (s := S1x8192) ![0, 128 * blk (tileP p.1) p.2] S1x128.size (iBlk_inb _ (blk_lt _ _))).set := by
    show ((View.whole (main_v11_scv : Ref sig .scVector)).slice _).set = _
    rw [View.set_slice]; exact Finset.map_refl
  rw [e, Rect.mem_set_unit]
  have hb : blk (tileP p.1) p.2 = 2 * (p.1.2.val + 16 * p.1.1.val) + p.2.val := rfl
  have h0 : (j 0).val < 1 := (j 0).isLt
  constructor
  · intro h
    have h1 := h 1
    change 128 * blk (tileP p.1) p.2 ≤ (j 1).val ∧ (j 1).val < 128 * blk (tileP p.1) p.2 + 128 at h1
    omega
  · intro h a
    fin_cases a
    · show 0 ≤ (j 0).val ∧ (j 0).val < 0 + 1; omega
    · show 128 * blk (tileP p.1) p.2 ≤ (j 1).val ∧ (j 1).val < 128 * blk (tileP p.1) p.2 + 128
      omega

theorem mem_oBlk (p : TT) (j : S8192x128.Idx) : j ∈ (oBlk (tileP p.1) p.2).view.set ↔ (j 0).val / 128 = 2 * (p.1.2.val + 16 * p.1.1.val) + p.2.val := by
  have e : (oBlk (tileP p.1) p.2).view.set = (Rect.unit (s := S8192x128) ![128 * blk (tileP p.1) p.2, 0] S128x128.size (oBlk_inb _ (blk_lt _ _))).set := by
    show ((View.whole (main_v12_scv : Ref sig .scVector)).slice _).set = _
    rw [View.set_slice]; exact Finset.map_refl
  rw [e, Rect.mem_set_unit]
  have hb : blk (tileP p.1) p.2 = 2 * (p.1.2.val + 16 * p.1.1.val) + p.2.val := rfl
  have h0 : (j 1).val < 128 := (j 1).isLt
  constructor
  · intro h
    have h1 := h 0
    change 128 * blk (tileP p.1) p.2 ≤ (j 0).val ∧ (j 0).val < 128 * blk (tileP p.1) p.2 + 128 at h1
    omega
  · intro h a
    fin_cases a
    · show 128 * blk (tileP p.1) p.2 ≤ (j 0).val ∧ (j 0).val < 128 * blk (tileP p.1) p.2 + 128
      omega
    · show 0 ≤ (j 1).val ∧ (j 1).val < 0 + 128; omega

theorem tt_inj {p p' : TT} (h : 2 * (p.1.2.val + 16 * p.1.1.val) + p.2.val = 2 * (p'.1.2.val + 16 * p'.1.1.val) + p'.2.val) : p = p' := by
  obtain ⟨⟨c, i⟩, t⟩ := p
  obtain ⟨⟨c', i'⟩, t'⟩ := p'
  simp only at h
  have := c.isLt; have := c'.isLt; have := i.isLt; have := i'.isLt; have := t.isLt; have := t'.isLt
  simp only [Prod.mk.injEq, Fin.ext_iff]
  omega

/-- The block number `n` names a tile and a trip. -/
theorem tt_surj (n : ℕ) (h : n < 64) : ∃ p : TT, n = 2 * (p.1.2.val + 16 * p.1.1.val) + p.2.val :=
  ⟨((⟨n / 32, by omega⟩, ⟨n / 2 % 16, by omega⟩), ⟨n % 2, by omega⟩), by simp only; omega⟩

/-- The blocks, as parts of the whole arrays. -/
abbrev iSet (p : TT) : Finset S1x8192.Idx := (iBlk (tileP p.1) p.2).view.set
abbrev oSet (p : TT) : Finset S8192x128.Idx := (oBlk (tileP p.1) p.2).view.set

theorem iBlk_apart : ∀ p ∈ (Finset.univ : Finset TT), ∀ p' ∈ (Finset.univ : Finset TT), p ≠ p' →
    Disjoint (iSet p) (iSet p') :=
  fun p _ p' _ hne => Finset.disjoint_left.mpr fun j h h' => hne (tt_inj (((mem_iBlk p j).mp h).symm.trans ((mem_iBlk p' j).mp h')))
theorem oBlk_apart : ∀ p ∈ (Finset.univ : Finset TT), ∀ p' ∈ (Finset.univ : Finset TT), p ≠ p' →
    Disjoint (oSet p) (oSet p') :=
  fun p _ p' _ hne => Finset.disjoint_left.mpr fun j h h' => hne (tt_inj (((mem_oBlk p j).mp h).symm.trans ((mem_oBlk p' j).mp h')))
theorem iBlk_all : (Finset.univ : Finset TT).biUnion iSet = Finset.univ :=
  Finset.eq_univ_of_forall fun j => by
    have h1 : (j 1).val < 8192 := (j 1).isLt
    obtain ⟨p, hp⟩ := tt_surj ((j 1).val / 128) (by omega)
    exact Finset.mem_biUnion.mpr ⟨p, Finset.mem_univ _, (mem_iBlk p j).mpr hp⟩
theorem oBlk_all : (Finset.univ : Finset TT).biUnion oSet = Finset.univ :=
  Finset.eq_univ_of_forall fun j => by
    have h1 : (j 0).val < 8192 := (j 0).isLt
    obtain ⟨p, hp⟩ := tt_surj ((j 0).val / 128) (by omega)
    exact Finset.mem_biUnion.mpr ⟨p, Finset.mem_univ _, (mem_oBlk p j).mpr hp⟩

theorem bigSep_trips (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem parts_in {P1 P2 P3 P4 P5 Q4 Q5 : sProp 𝕄} (h4 : P4 ⊢ Q4) (h5 : P5 ⊢ Q5) :
    iprop((P1 ∗ P2) ∗ P3 ∗ P4 ∗ P5) ⊢ iprop(P1 ∗ P2 ∗ P3 ∗ Q4 ∗ Q5) := by
  iintro ⟨⟨H1, H2⟩, H3, H4, H5⟩
  isplitl [H1]; · iexact H1
  isplitl [H2]; · iexact H2
  isplitl [H3]; · iexact H3
  isplitl [H4]; · iapply h4 $$ H4
  iapply h5 $$ H5
theorem parts_out {P1 P2 P3 P4 P5 : sProp 𝕄} : iprop(P1 ∗ P2 ∗ P3 ∗ P4 ∗ P5) ⊢ iprop((P1 ∗ P2) ∗ P3 ∗ P4 ∗ P5) := by
  iintro ⟨H1, H2, H3, H4, H5⟩
  isplitl [H1 H2]
  · isplitl [H1]; · iexact H1
    iexact H2
  isplitl [H3]; · iexact H3
  isplitl [H4]; · iexact H4
  iexact H5

section Whole

variable (A : Dev nD → FVec F S4096x128 .f32) (B : Dev nD → IVec S1x8192 32) (d : Dev nD)

theorem i_whole (f : Buf (Elt F) (iLoc d)) : (iLoc d ↦{fullShare} f : sProp 𝕄) = bigSep Finset.univ fun p : Fin 2 × Fin 16 =>
    iprop((iLoc d ↦[(iBlk (tileP p) 0).view.set]{fullShare} f) ∗ iLoc d ↦[(iBlk (tileP p) 1).view.set]{fullShare} f) := by
  have h : (iLoc d ↦{fullShare} f : sProp 𝕄) = bigSep Finset.univ fun p : TT => iLoc d ↦[iSet p]{fullShare} f := by
    rw [← pointsTo_biUnion Finset.univ (ℓ := iLoc d) iSet iBlk_apart, iBlk_all]; try rfl
  rw [h, bigSep_univ_prod]
  exact bigSep_congr fun p _ => bigSep_trips _
theorem o_whole (f : Buf (Elt F) (oLoc d)) : (oLoc d ↦{fullShare} f : sProp 𝕄) = bigSep Finset.univ fun p : Fin 2 × Fin 16 =>
    iprop((oLoc d ↦[(oBlk (tileP p) 0).view.set]{fullShare} f) ∗ oLoc d ↦[(oBlk (tileP p) 1).view.set]{fullShare} f) := by
  have h : (oLoc d ↦{fullShare} f : sProp 𝕄) = bigSep Finset.univ fun p : TT => oLoc d ↦[oSet p]{fullShare} f := by
    rw [← pointsTo_biUnion Finset.univ (ℓ := oLoc d) oSet oBlk_apart, oBlk_all]; try rfl
  rw [h, bigSep_univ_prod]
  exact bigSep_congr fun p _ => bigSep_trips _
theorem x_whole (f : Buf (Elt F) (xLoc d)) : (xLoc d ↦{fullShare} f : sProp 𝕄) = bigSep Finset.univ fun p : Fin 2 × Fin 16 =>
    (xLoc d ↦{xq (tileP p)} f) := by
  rw [pointsTo_piecesOf Finset.univ f (o := 2 * 16) (by decide) fullShare, bigSep_univ_equiv finProdFinEquiv]
  rfl

/-- The whole arrays are what the tiles take, -/
theorem st_intro (f : Buf (Elt F) (oLoc d)) : iprop((iLoc d ↦{fullShare} B d) ∗ (xLoc d ↦{fullShare} A d) ∗ oLoc d ↦{fullShare} f)
    ⊢ bigSep Finset.univ fun c : Fin ((K (F := F)).nCore 0) => (P A B).st 0 d c := by
  refine BI.Entails.trans ?_ (Entails.of_eq (bigSep_univ_prod (fun p : Fin 2 × Fin 16 => goP A B d (tileP p))))
  rw [i_whole, x_whole, o_whole, ← bigSep_sep', ← bigSep_sep']
  refine bigSep_mono fun p _ => ?_
  exact parts_in (exists_intro (Φ := fun g : Buf (Elt F) (oLoc d) => (oLoc d ↦[(oBlk (tileP p) 0).view.set]{fullShare} g : sProp 𝕄)) f)
    (exists_intro (Φ := fun g : Buf (Elt F) (oLoc d) => (oLoc d ↦[(oBlk (tileP p) 1).view.set]{fullShare} g : sProp 𝕄)) f)

/-- and what the tiles bring back is the whole arrays, the result at the gathered rows. -/
theorem dn_elim : (bigSep Finset.univ fun c : Fin ((K (F := F)).nCore 0) => (P A B).dn 0 d c)
    ⊢ iprop((iLoc d ↦{fullShare} B d) ∗ (xLoc d ↦{fullShare} A d) ∗ oLoc d ↦{fullShare} gath (A d) (B d)) := by
  refine BI.Entails.trans (Entails.of_eq (bigSep_univ_prod (fun p : Fin 2 × Fin 16 => tdP A B d (tileP p))).symm) ?_
  rw [i_whole, x_whole, o_whole, ← bigSep_sep', ← bigSep_sep']
  refine bigSep_mono fun p _ => ?_
  exact parts_out

end Whole

end Cert.Proof

end
-- ==== Proof.Main.lean ====
/-
  @main on a device's TensorCore, and the launch.

  Every buffer is held at a valuation.  The operations before the TensorCore call take the launch's valuation to `W1`,
  the call to `W2`, the operations between the calls to `W3`, the SparseCore call to `W4` (its result is the gather of
  the padded table at the chosen indices) and the operations after it to `W5`, which every final state agrees with.
-/
module

public import proofs.«01_k».proof.Proof.Seg
public import proofs.«01_k».proof.Proof.Call
public import proofs.«01_k».proof.Proof.Split

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore (S V T)
open Idealize.ShloMosaic.SparseCore.Cfg (HIx)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The operations -/

/-- Before the TensorCore call. -/
def ops1 : List (HloOp τ sig (Elt F)) :=
  [StableHlo.reshape main_arg0 main_v0 (rfl : (.f32 : EltTy) = .f32) shapeCasts_S8x1024x64_S8192x64,
    StableHlo.binary main_arg1 main_arg1 main_v1 (mulf : (⟨S4096x64, .f32⟩ : BufTy).Contents (Elt F) → (⟨S4096x64, .f32⟩ : BufTy).Contents (Elt F) → (⟨S4096x64, .f32⟩ : BufTy).Contents (Elt F)),
    StableHlo.nullary main_cst (constant S_ .f32 0x00000000#32),
    StableHlo.binary main_v1 main_cst main_v2 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v2 main_v3 (broadcastInDim S1x4096 ![1] bcast_S4096_S1x4096_1 : (⟨S4096, .f32⟩ : BufTy).Contents (Elt F) → (⟨S1x4096, .f32⟩ : BufTy).Contents (Elt F)),
    StableHlo.binary main_v0 main_v0 main_v4 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v4 main_cst_0 main_v5 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v5 main_v6 (broadcastInDim S8192x1 ![0] bcast_S8192_S8192x1_0 : (⟨S8192, .f32⟩ : BufTy).Contents (Elt F) → (⟨S8192x1, .f32⟩ : BufTy).Contents (Elt F)),
    StableHlo.unary main_arg1 main_v7 ((transpose S64x4096 [1, 0] · transposes_S4096x64_S64x4096_1_0) : (⟨S4096x64, .f32⟩ : BufTy).Contents (Elt F) → (⟨S64x4096, .f32⟩ : BufTy).Contents (Elt F))]

/-- Between the calls. -/
def ops2 : List (HloOp τ sig (Elt F)) :=
  [StableHlo.reshape main_v8_0 main_v9 (rfl : (.i32 : EltTy) = .i32) shapeCasts_S32x1x256_S8192,
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_arg1 main_call0_v0 main_v10 ((fun x v => pad S4096x128 ![0, 0] ![0, 64] ![0, 0] x v pads_S4096x64_S4096x128_000_0640 h_S_) : (⟨S4096x64, .f32⟩ : BufTy).Contents (Elt F) → (⟨S_, .f32⟩ : BufTy).Contents (Elt F) → (⟨S4096x128, .f32⟩ : BufTy).Contents (Elt F)),
    StableHlo.reshape main_v9 main_v11 (rfl : (.i32 : EltTy) = .i32) shapeCasts_S8192_S1x8192]

/-- After the SparseCore call. -/
def ops3 : List (HloOp τ sig (Elt F)) :=
  [StableHlo.unary main_v12 main_v13 ((extractStridedSlice S8192x64 ![0, 0] · slices_S8192x128_S8192x64_0_0) : (⟨S8192x128, .f32⟩ : BufTy).Contents (Elt F) → (⟨S8192x64, .f32⟩ : BufTy).Contents (Elt F)),
    StableHlo.binary main_v13 main_v0 main_v14 (subf : (⟨S8192x64, .f32⟩ : BufTy).Contents (Elt F) → (⟨S8192x64, .f32⟩ : BufTy).Contents (Elt F) → (⟨S8192x64, .f32⟩ : BufTy).Contents (Elt F)),
    StableHlo.binary main_v0 main_v14 main_v15 (addf : (⟨S8192x64, .f32⟩ : BufTy).Contents (Elt F) → (⟨S8192x64, .f32⟩ : BufTy).Contents (Elt F) → (⟨S8192x64, .f32⟩ : BufTy).Contents (Elt F)),
    StableHlo.reshape main_v15 main_v16 (rfl : (.f32 : EltTy) = .f32) shapeCasts_S8192x64_S8x1024x64,
    StableHlo.reshape main_v9 main_v17 (rfl : (.i32 : EltTy) = .i32) shapeCasts_S8192_S8x1024,
    StableHlo.reshape main_v8_1 main_v18 (rfl : (.f32 : EltTy) = .f32) shapeCasts_S1x1_S_,
    StableHlo.reshape main_v8_2 main_v19 (rfl : (.f32 : EltTy) = .f32) shapeCasts_S1x1_S_]

theorem main_eq (d : Dev nD) : main (F := F) d = StableHlo.seq ops1 >>= fun _ =>
    SparseCore.liftProg (Prog.lift (.customCall (Pipeline.entry (0 : Fin 1)) ())) >>= fun _ =>
    StableHlo.seq ops2 >>= fun _ => (K (F := F)).run d 0 >>= fun _ => StableHlo.seq ops3 := by
  unfold main fn_pad.body ops1 ops2 ops3
  simp only [StableHlo.seq, bind_assoc, pure_bind]
  rfl

theorem ops1_sub : ∀ op ∈ (ops1 (F := F)), op.bufs ⊆ Pipeline.ucRefs τ sig := by
  intro op hop
  refine Pipeline.sub_ucRefs op ?_
  simp only [ops1, List.mem_cons, List.mem_nil_iff, or_false] at hop
  rcases hop with rfl | rfl | rfl | rfl | rfl | rfl | rfl | rfl | rfl | rfl <;> simp
theorem ops2_sub : ∀ op ∈ (ops2 (F := F)), op.bufs ⊆ Pipeline.ucRefs τ sig := by
  intro op hop
  refine Pipeline.sub_ucRefs op ?_
  simp only [ops2, List.mem_cons, List.mem_nil_iff, or_false] at hop
  rcases hop with rfl | rfl | rfl | rfl | rfl <;> simp
theorem ops3_sub : ∀ op ∈ (ops3 (F := F)), op.bufs ⊆ Pipeline.ucRefs τ sig := by
  intro op hop
  refine Pipeline.sub_ucRefs op ?_
  simp only [ops3, List.mem_cons, List.mem_nil_iff, or_false] at hop
  rcases hop with rfl | rfl | rfl | rfl | rfl | rfl | rfl <;> simp
theorem ops1_fresh : ∀ op ∈ (ops1 (F := F)), op.fresh = ∅ := by
  intro _ h; (repeat (cases h with | head => rfl | tail _ h => ?_)); exact nomatch h
theorem ops2_fresh : ∀ op ∈ (ops2 (F := F)), op.fresh = ∅ := by
  intro _ h; (repeat (cases h with | head => rfl | tail _ h => ?_)); exact nomatch h
theorem ops3_fresh : ∀ op ∈ (ops3 (F := F)), op.fresh = ∅ := by
  intro _ h; (repeat (cases h with | head => rfl | tail _ h => ?_)); exact nomatch h

/-! ## The valuations -/

variable (m : (ℓ : Loc nD τ sig) → Buf (Elt F) ℓ) (ρ : Dev nD → PrngReg)

def W0 (d : Dev nD) : Valuation τ sig (Elt F) := fun b => m (d, b)
def W1 (d : Dev nD) : Valuation τ sig (Elt F) := StableHlo.after ops1 (W0 m d)
def W2 (d : Dev nD) : Valuation τ sig (Elt F) := Wout (W1 m) d
def W3 (d : Dev nD) : Valuation τ sig (Elt F) := StableHlo.after ops2 (W2 m d)
/-- The padded table and the list of chosen indices the SparseCore call reads. -/
def tabOf (d : Dev nD) : FVec F S4096x128 .f32 := W3 m d (Proc.devRef .tc main_v10)
def idxOf (d : Dev nD) : IVec S1x8192 32 := W3 m d (Proc.devRef .tc main_v11)
def W4 (d : Dev nD) : Valuation τ sig (Elt F) := Function.update (W3 m d) (Proc.devRef .tc main_v12) (gath (tabOf m d) (idxOf m d))
def W5 (d : Dev nD) : Valuation τ sig (Elt F) := StableHlo.after ops3 (W4 m d)

abbrev PP : (K (F := F)).Pay (N := 1) (nD := nD) (Val := Elt F) (Name := ℕ) (U := UU) := P (tabOf m) (idxOf m)

/-! ## Pieces of the proof of @main -/

theorem tcSt_split (d : Dev nD) : ((K (F := F)).tcSt EH d 0 : sProp 𝕄) ⊢ iprop(debts d ∗ (debts d -∗ (K (F := F)).tcSt EH d 0)) := by
  unfold SparseCore.Cfg.tcSt
  iintro ⟨Hd, Hr⟩
  isplitl [Hd]; · iexact Hd
  iintro Hd
  isplitl [Hd]; · iexact Hd
  iexact Hr

/-- The three buffers the SparseCore call names. -/
def scRefs : Finset (DevRef τ sig) := {Proc.devRef .tc main_v11, Proc.devRef .tc main_v10, Proc.devRef .tc main_v12}

theorem scRefs_sub : scRefs ⊆ Pipeline.ucRefs τ sig := by
  intro b hb
  simp only [scRefs, Finset.mem_insert, Finset.mem_singleton] at hb
  refine Finset.mem_filter.mpr ⟨?_, ?_⟩
  · rcases hb with rfl | rfl | rfl <;> exact StableHlo.devRef_mem_tcRefs _
  · rcases hb with rfl | rfl | rfl <;> decide

theorem held_scRefs (d : Dev nD) (W : Valuation τ sig (Elt F)) :
    (StableHlo.held (d.tc : Thread nD τ) scRefs W : sProp 𝕄)
      = iprop((iLoc d ↦{fullShare} W (Proc.devRef .tc main_v11)) ∗ (xLoc d ↦{fullShare} W (Proc.devRef .tc main_v10))
        ∗ oLoc d ↦{fullShare} W (Proc.devRef .tc main_v12)) := by
  unfold StableHlo.held scRefs
  rw [SparseCore.bigSep_insert' (by decide), SparseCore.bigSep_insert' (by decide), bigSep_singleton]

theorem W4_v12 (d : Dev nD) : W4 m d (Proc.devRef .tc main_v12) = gath (tabOf m d) (idxOf m d) := Function.update_self ..
theorem W4_ne (d : Dev nD) (b : DevRef τ sig) (h : b ≠ Proc.devRef .tc main_v12) : W4 m d b = W3 m d b := Function.update_of_ne h ..

theorem held_rest (d : Dev nD) :
    (StableHlo.held (d.tc : Thread nD τ) (Pipeline.ucRefs τ sig \ scRefs) (W4 m d) : sProp 𝕄)
      = StableHlo.held (d.tc : Thread nD τ) (Pipeline.ucRefs τ sig \ scRefs) (W3 m d) :=
  StableHlo.held_congr _ fun b hb => W4_ne m d b fun h =>
    (Finset.mem_sdiff.mp hb).2 (h ▸ by simp only [scRefs, Finset.mem_insert, Finset.mem_singleton, or_true])

theorem arrRefs_sub : (Pipeline.arrRefs spec0 : Finset (DevRef τ sig)) ⊆ Pipeline.ucRefs τ sig :=
  Pipeline.arrRefs_sub_ucRefs spec0 (by decide)

theorem held_rest0 (d : Dev nD) :
    (StableHlo.held (d.tc : Thread nD τ) (Pipeline.ucRefs τ sig \ Pipeline.arrRefs spec0) (W2 m d) : sProp 𝕄)
      = StableHlo.held (d.tc : Thread nD τ) (Pipeline.ucRefs τ sig \ Pipeline.arrRefs spec0) (W1 m d) :=
  StableHlo.held_congr _ fun b hb => by
    obtain ⟨h1, h2⟩ := Finset.mem_sdiff.mp hb
    obtain ⟨r, -, rfl⟩ := Finset.mem_map.mp (Finset.mem_filter.mp h1).1
    exact Pipeline.withArrays_of_ne spec0 d (W1 m d) _ r fun w e => h2 (Finset.mem_map.mpr ⟨r, Finset.mem_image.mpr ⟨w, Finset.mem_univ _, e⟩, rfl⟩)

/-- The ghost state the pipeline starts from. -/
abbrev pipeGhost (d : Dev nD) : sProp 𝕄 :=
  iprop(Pipeline.cellsGhost (Pipeline.pin (pcfgs (F := F)) adm) EK 0 d ∗ Pipeline.toksInit (Pipeline.pin (pcfgs (F := F)) adm) EK 0 d)

abbrev FIN (d : Dev nD) : sProp 𝕄 := StableHlo.held (d.tc : Thread nD τ) (Pipeline.ucRefs τ sig) (W5 m d)

theorem reg_pre (W : Dev nD → Valuation τ sig (Elt F)) (d : Dev nD) :
    (reg W).pre d = iprop(StableHlo.held (d.tc : Thread nD τ) (Pipeline.arrRefs spec0) (W d) ∗ debts d) := by dsimp only [reg]
theorem reg_post (W : Dev nD → Valuation τ sig (Elt F)) (d : Dev nD) :
    (reg W).post d = iprop(StableHlo.held (d.tc : Thread nD τ) (Pipeline.arrRefs spec0) (Wout W d) ∗ debts d) := by dsimp only [reg]

set_option backward.isDefEq.respectTransparency.types false in
theorem region_run (W : Dev nD → Valuation τ sig (Elt F)) (d : Dev nD) (Q : PUnit → sProp 𝕄) :
    iprop((iprop(boundary (d.tc : Thread nD τ) ∗ StableHlo.held (d.tc : Thread nD τ) (Pipeline.arrRefs spec0) (Wout W d) ∗ debts d) -∗ Q ⟨⟩)
        ∗ boundary (d.tc : Thread nD τ) ∗ (StableHlo.held (d.tc : Thread nD τ) (Pipeline.arrRefs spec0) (W d) ∗ debts d)
        ∗ levAts (K (F := F)).L (K (F := F)).lev ∗ pipeGhost d)
      ⊢ wp frame (wpE ((K (F := F)).defs (D (F := F))) 𝒱 (SparseCore.T d) none) Set.univ
          (SparseCore.liftProg (Prog.lift (.customCall (Pipeline.entry (0 : Fin 1)) ()))) Q := by
  refine BI.Entails.trans ?_ ((K (F := F)).wp_liftProg (D (F := F)) 𝒱 (SparseCore.T d) Set.univ none _ _)
  have hv : ∀ u ∈ (none : Option (Variants.lift 𝒱₀).V), (Variants.lift 𝒱₀).lt (.inr ((Pipeline.pin (pcfgs (F := F)) adm 0).tripCount + 1)) u := by
    intro u hu; cases hu
  have hw := Pipeline.RegionSeg.wp (pcfgs (F := F)) adm (dats (entry W)) none cellOf_inj EK defs₀ 𝒱₀
    (K (F := F)).L (K (F := F)).lev (reg W) d none hv (fun _ => .ret ⟨⟩) Q
  refine BI.Entails.trans ?_ hw
  have h : ∀ X : sProp 𝕄, iprop(X -∗ Q ⟨⟩) ⊢ iprop(X -∗ wp frame (wpE (D (F := F)) 𝒱 (SparseCore.T d) none) Set.univ (.ret ⟨⟩) Q) := fun X => by
    iintro H HX
    rw [wp_ret]
    ihave H := H $$ HX
    imodintro; iexact H
  rw [reg_pre, reg_post]
  exact BI.sep_mono (h _) (BI.Entails.refl _)

theorem hmain (κ : GSem nD τ sig → ℕ) (d : Dev nD) :
    iprop((K (F := F)).ctx EH (PP m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = StableHlo.held (d.tc : Thread nD τ) (Pipeline.ucRefs τ sig) (W0 m d) from
    Pipeline.unscopedBufs_held d (W0 m d)]
  iintro ⟨#Hctx, Hst, ⟨Hb, Hh, Hts, -⟩, Hg, Ht⟩
  ihave #Hlev := (SparseCore.Cfg.ctx_levAts (K := K (F := F)) κ) $$ Hctx
  -- the operations before the TensorCore call
  iapply (StableHlo.wp_seq 𝒱 none Set.univ d (Pipeline.ucRefs τ sig) _ ops1 ops1_sub ops1_fresh (W0 m d)) $$ [Hb Hh]
  · isplitl [Hb] <;> iassumption
  iintro ⟨Hb, Hh⟩
  -- the TensorCore call
  ihave Hst := (tcSt_split d) $$ Hst
  icases Hst with ⟨Hd, Hst⟩
  ihave Hh := (show (StableHlo.held (d.tc : Thread nD τ) (Pipeline.ucRefs τ sig) (StableHlo.after ops1 (W0 m d)) : sProp 𝕄) ⊢ _ from
    Entails.of_eq (StableHlo.held_sub_split (d.tc : Thread nD τ) arrRefs_sub (W1 m d))) $$ Hh
  icases Hh with ⟨Ha, Hr⟩
  rw [wp_bind]
  iapply (region_run (W1 m) d _)
  isplitr [Hb Ha Hd Hg Ht]
  swap
  · isplitl [Hb]; · iexact Hb
    isplitl [Ha Hd]
    · isplitl [Ha] <;> iassumption
    isplitr; · iexact Hlev
    isplitl [Hg] <;> iassumption
  iintro ⟨Hb, Ha, Hd⟩
  ihave Hst := Hst $$ Hd
  ihave Hh := (Entails.of_eq (show iprop(StableHlo.held (d.tc : Thread nD τ) (Pipeline.arrRefs spec0) (Wout (W1 m) d)
      ∗ StableHlo.held (d.tc : Thread nD τ) (Pipeline.ucRefs τ sig \ Pipeline.arrRefs spec0) (W1 m d))
      = (StableHlo.held (d.tc : Thread nD τ) (Pipeline.ucRefs τ sig) (W2 m d) : sProp 𝕄) by
    rw [StableHlo.held_sub_split _ arrRefs_sub (W2 m d), held_rest0]; rfl)) $$ [Ha Hr]
  · isplitl [Ha] <;> iassumption
  -- the operations between the calls
  iapply (StableHlo.wp_seq 𝒱 none Set.univ d (Pipeline.ucRefs τ sig) _ ops2 ops2_sub ops2_fresh (W2 m d)) $$ [Hb Hh]
  · isplitl [Hb] <;> iassumption
  iintro ⟨Hb, Hh⟩
  -- the SparseCore call
  ihave Hh := (show (StableHlo.held (d.tc : Thread nD τ) (Pipeline.ucRefs τ sig) (StableHlo.after ops2 (W2 m d)) : sProp 𝕄) ⊢ _ from
    Entails.of_eq ((StableHlo.held_sub_split (d.tc : Thread nD τ) scRefs_sub (W3 m d)).trans
    (congrArg (fun p : sProp 𝕄 => iprop(p ∗ _)) (held_scRefs d (W3 m d))))) $$ Hh
  icases Hh with ⟨Hs, Hr⟩
  rw [wp_bind]
  iapply ((K (F := F)).wp_run (D (F := F)) 𝒱 (EH := EH) (P := PP m) κ d 0) $$ [Hst Hs Hr Hb Hts]
  isplitr; · iexact Hctx
  isplitl [Hst]; · iexact Hst
  isplitl [Hs]
  · iapply (st_intro (tabOf m) (idxOf m) d _); iexact Hs
  iintro ⟨Hst, Hdn⟩
  ihave Hs := (dn_elim (tabOf m) (idxOf m) d) $$ Hdn
  ihave Hh := (Entails.of_eq (show iprop(((iLoc d ↦{fullShare} idxOf m d) ∗ (xLoc d ↦{fullShare} tabOf m d) ∗ oLoc d ↦{fullShare} gath (tabOf m d) (idxOf m d))
      ∗ StableHlo.held (d.tc : Thread nD τ) (Pipeline.ucRefs τ sig \ scRefs) (W3 m d))
      = (StableHlo.held (d.tc : Thread nD τ) (Pipeline.ucRefs τ sig) (W4 m d) : sProp 𝕄) by
    rw [StableHlo.held_sub_split _ scRefs_sub (W4 m d), held_scRefs, held_rest, W4_v12, W4_ne m d _ (by decide), W4_ne m d _ (by decide)]; rfl)) $$ [Hs Hr]
  · isplitl [Hs] <;> iassumption
  -- the operations after it
  rw [show (StableHlo.seq (ops3 (F := F)) : Prog (TpuEff nD τ sig (Elt F) _ .tc) PUnit) = StableHlo.seq ops3 >>= fun _ => .ret ⟨⟩ from (bind_pure _).symm]
  iapply (StableHlo.wp_seq 𝒱 none Set.univ d (Pipeline.ucRefs τ sig) _ ops3 ops3_sub ops3_fresh (W4 m d)) $$ [Hb Hh]
  · isplitl [Hb] <;> iassumption
  iintro ⟨Hb, Hh⟩
  rw [wp_ret]
  imodintro
  isplitl [Hst]; · iexact Hst
  isplitl [Hh]; · iexact Hh
  isplitl [Hb] <;> iassumption

/-! ## The launch -/

/-- The launch element: the handshakes' cells and the pipeline's; no counter yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem fund_pipe :
    (BI.own (EK (initOf (Pipeline.cells (Pipeline.pin (pcfgs (F := F)) adm) cellOf_inj)
        (Pipeline.launchToks (Pipeline.pin (pcfgs (F := F)) adm) cellOf_inj))) : sProp 𝕄)
      ⊢ iprop(|==> bigSep Finset.univ fun d : Dev nD => pipeGhost (F := F) d) := by
  refine BI.Entails.trans (Pipeline.fund_ghost (Pipeline.pin (pcfgs (F := F)) adm) EK cellOf_inj) (bupd_mono ?_)
  rw [← bigSep_sep']
  exact bigSep_mono fun d _ => BIClass.sep_mono (Entails.of_eq (bigSep_univ_of_subsingleton (0 : Fin 1))) (Entails.of_eq (bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) := by
    rw [show (bigSep Finset.univ fun thr : Thread nD τ => bigSep Finset.univ fun q : Fin 1 => (PP m).x q thr) = bigSep Finset.univ fun _ => iprop(emp) from
      bigSep_congr fun _ _ => bigSep_univ_of_subsingleton (0 : Fin 1)]
    exact bigSep_emp_const _
  rw [hx]
  unfold u₀
  iintro Hu
  ihave H := (ownU_pair (nD := nD) (sig := sig) (Ix := HIx 1) (Val := Elt F) (Name := ℕ) (Lvl := ℕ) (initOf (K (F := F)).hsCells (K (F := F)).hsToks) _) $$ Hu
  icases H with ⟨HH, HR⟩
  ihave HR := (own_pair_emb (embR (nD := nD) (sig := sig) (Ix := HIx 1) (Val := Elt F) (Name := ℕ) (Lvl := ℕ) (A := UH) (B := UK × Counters)) _ _) $$ HR
  icases HR with ⟨HK, -⟩
  ihave HK := (show (BI.own ((((Emb.inl : Emb UK (UK × Counters)).trans (embR (nD := nD) (sig := sig) (Ix := HIx 1) (Val := Elt F) (Name := ℕ) (Lvl := ℕ) (A := UH) (B := UK × Counters)))) (initOf (Pipeline.cells (Pipeline.pin (pcfgs (F := F)) adm) cellOf_inj) (Pipeline.launchToks (Pipeline.pin (pcfgs (F := F)) adm) cellOf_inj))) : sProp 𝕄) ⊢ _ from fund_pipe (F := F)) $$ HK
  imod HK with HK
  imodintro
  isplitl [HH]; · iexact HH
  isplitl [HK]; · iexact HK
  iempintro

/-- What the final state says on device `d`: every unscoped buffer as the operations leave it. -/
def fq (d : Dev nD) (s' : Phys nD τ sig (Elt F)) : Prop := ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := by
  refine Entails.trans (forall_intro fun b => forall_intro fun hb => ?_) (Entails.trans (forall_mono fun b => pure_forall.2) pure_forall.2)
  rw [FIN, StableHlo.held_sub_split _ (Finset.singleton_subset_iff.mpr hb) (W5 m d)]
  unfold StableHlo.held
  rw [bigSep_singleton]
  iintro ⟨⟨Hb, -⟩, HSI⟩
  ihave H := (SI_pointsTo_agree (st := s') (ℓ := ((d, b) : Loc nD τ sig)) (I := Finset.univ) (q := fullShare) (f := W5 m d b)) $$ [HSI Hb]
  · isplitl [HSI] <;> iassumption
  icases H with %h
  ipureintro; exact funext fun i => h i (Finset.mem_univ i)

/-- What a run of the kernel ends with, on every device; and every semaphore zero. -/
def QC : PUnit × MemSt nD τ sig (Elt F) → Prop := fun r =>
  (∀ d : Dev nD, ∀ b ∈ Pipeline.ucRefs τ sig, r.2.mem (d, b) = W5 m d b) ∧ r.2.sem = fun _ => 0

/-- The kernel runs, where every index the TensorCore call finds is a row of the table. -/
theorem run_main (hB : ∀ d j, (idxOf m d j).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ facts hB)
    (fun q _ => match q with | 0 => SparseCore.Cfg.VecSplit.of_plain (vecSplit _ _))
    m ρ main (fun d => pipeGhost d) (FIN m) (u₀ (F := F)) (sep_elim_left.trans (hu₀ m)) (hmain m ρ) (fq m) (hfin m) (QC m) (fun _ h hz => ⟨h, hz⟩)

end Cert.Proof

end
-- ==== Proof.Arrays.lean ====
/-
  The arrays of the TensorCore call, read at coordinates: where each window's block sits, and what the
  three results hold after the last point.
-/
module

public import proofs.«01_k».proof.Proof.Main
public import Idealize.ShloMosaic.Lib.Pipeline.Value
public import Idealize.ShloMosaic.Lib.Pointwise.Index

@[expose] public section

noncomputable section

namespace Cert.Proof

open Cert.KernelIdeal Cert.KernelIdeal.Gen
open Idealize.ShloMosaic Idealize.ShloMosaic.TcCoe Idealize.SL.Sem
open Idealize.ShloMosaic.Pipeline (Dat Cfg Window)

variable {F : FTy → Type} [FloatOps F] [∀ e, Nonempty (Elt F e)]

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = t.val ∧ win0_4.index t (1 : Fin 3) = 0 ∧ win0_4.index t (2 : Fin 3) = 0 :=
  (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)

theorem N32 : cfg0.N = 32 := N_0

/-- Row `r` of block `t` among all the rows. -/
def row (t : Fin cfg0.N) (r : Fin 256) : Fin 8192 := ⟨t.val * 256 + r.val, by have := t.isLt; have := N32; omega⟩

/-- The point of the grid that the row falls to, and its place in that block. -/
def pt (n : Fin 8192) : Fin cfg0.N := ⟨n.val / 256, by have := N32; have := n.isLt; omega⟩
def pl (n : Fin 8192) : Fin 256 := ⟨n.val % 256, Nat.mod_lt _ (by decide)⟩

theorem row_pt_pl (n : Fin 8192) : row (pt n) (pl n) = n := Fin.ext (Nat.div_add_mod' n.val 256)

variable (Ve : Entry F)

theorem zB_apply (c : Dev nD) (t : Fin cfg0.N) (r : Fin 256) (k : Fin 64) :
    (zB Ve c t : FVec F S256x64 .f32) (ix2 r k) = (Ve c main_v0 : FVec F S8192x64 .f32) (ix2 (row t r) k) := by
  obtain ⟨e0, e1⟩ := at0 t
  show Ve c main_v0 (((cfg0.win 0).blk t).view.emb (ix2 r k)) = Ve c main_v0 (ix2 (row t r) k)
  congr 1; funext a; apply Fin.ext
  match a with
  | ⟨0, _⟩ => show win0_0.index t (0 : Fin 2) * 256 + 1 * r.val = t.val * 256 + r.val; omega
  | ⟨1, _⟩ => show win0_0.index t (1 : Fin 2) * 64 + 1 * k.val = k.val; omega

theorem qB_apply (c : Dev nD) (t : Fin cfg0.N) (r : Fin 256) :
    (qB Ve c t : FVec F S256x1 .f32) (ix2 r 0) = (Ve c main_v6 : FVec F S8192x1 .f32) (ix2 (row t r) 0) := by
  obtain ⟨e0, e1⟩ := at1 t
  show Ve c main_v6 (((cfg0.win 1).blk t).view.emb (ix2 r 0)) = Ve c main_v6 (ix2 (row t r) 0)
  congr 1; funext a; apply Fin.ext
  match a with
  | ⟨0, _⟩ => show win0_1.index t (0 : Fin 2) * 256 + 1 * r.val = t.val * 256 + r.val; omega
  | ⟨1, _⟩ => show win0_1.index t (1 : Fin 2) * 1 + 1 * 0 = 0; omega

theorem eB_apply (c : Dev nD) (t : Fin cfg0.N) (i : S64x4096.Idx) :
    (eB Ve c t : FVec F S64x4096 .f32) i = (Ve c main_v7 : FVec F S64x4096 .f32) i := by
  obtain ⟨e0, e1⟩ := at2 t
  show Ve c main_v7 (((cfg0.win 2).blk t).view.emb i) = Ve c main_v7 i
  congr 1; funext a; apply Fin.ext
  match a with
  | ⟨0, _⟩ => show win0_2.index t (0 : Fin 2) * 64 + 1 * (i 0).val = (i 0).val; omega
  | ⟨1, _⟩ => show win0_2.index t (1 : Fin 2) * 4096 + 1 * (i 1).val = (i 1).val; omega

theorem lB_apply (c : Dev nD) (t : Fin cfg0.N) (i : S1x4096.Idx) :
    (lB Ve c t : FVec F S1x4096 .f32) i = (Ve c main_v3 : FVec F S1x4096 .f32) i := by
  obtain ⟨e0, e1⟩ := at3 t
  show Ve c main_v3 (((cfg0.win 3).blk t).view.emb i) = Ve c main_v3 i
  congr 1; funext a; apply Fin.ext
  match a with
  | ⟨0, _⟩ => show win0_3.index t (0 : Fin 2) * 1 + 1 * (i 0).val = (i 0).val; omega
  | ⟨1, _⟩ => show win0_3.index t (1 : Fin 2) * 4096 + 1 * (i 1).val = (i 1).val; omega

/-! ## The results -/

theorem emb4 (t : Fin cfg0.N) (j : S1x1x256.Idx) :
    ((cfg0.win 4).blk t).view.emb j = (ix3 (n0 := 32) (n1 := 1) (n2 := 256) (t.cast N32) 0 (j 2) : S32x1x256.Idx) := by
  obtain ⟨e0, e1, e2⟩ := at4 t
  have h0 : (j 0).val = 0 := by have : (j 0).val < 1 := (j 0).isLt; omega
  have h1 : (j 1).val = 0 := by have : (j 1).val < 1 := (j 1).isLt; omega
  funext a; apply Fin.ext
  match a with
  | ⟨0, _⟩ => show win0_4.index t (0 : Fin 3) * 1 + 1 * (j 0).val = t.val; omega
  | ⟨1, _⟩ => show win0_4.index t (1 : Fin 3) * 1 + 1 * (j 1).val = 0; omega
  | ⟨2, _⟩ => show win0_4.index t (2 : Fin 3) * 256 + 1 * (j 2).val = (j 2).val; omega

theorem emb5 (t : Fin cfg0.N) (j : S1x1.Idx) : ((cfg0.win 5).blk t).view.emb j = j := by
  obtain ⟨e0, e1⟩ := at5 t
  funext a; apply Fin.ext
  match a with
  | ⟨0, _⟩ => show win0_5.index t (0 : Fin 2) * 1 + 1 * (j 0).val = (j 0).val; omega
  | ⟨1, _⟩ => show win0_5.index t (1 : Fin 2) * 1 + 1 * (j 1).val = (j 1).val; omega

theorem emb6 (t : Fin cfg0.N) (j : S1x1.Idx) : ((cfg0.win 6).blk t).view.emb j = j := by
  obtain ⟨e0, e1⟩ := at6 t
  funext a; apply Fin.ext
  match a with
  | ⟨0, _⟩ => show win0_6.index t (0 : Fin 2) * 1 + 1 * (j 0).val = (j 0).val; omega
  | ⟨1, _⟩ => show win0_6.index t (1 : Fin 2) * 1 + 1 * (j 1).val = (j 1).val; omega

theorem after4' (c : Dev nD) (t : Fin cfg0.N) : (dats Ve 0 c).after 4 t = k0_pay10 (dist Ve c t) := by dsimp only [dats]

theorem pay10_apply (X : Vec F S256x4096 .f32) (j : S1x1x256.Idx) : k0_pay10 X j = k0_pay9 X (ix1 (j 2)) := by
  unfold k0_pay10
  refine shapeCast_apply (k0_pay9 X) _ j (ix1 (j 2)) ?_
  rw [Shape.rowMajor_val_one, Shape.rowMajor_val_three]
  have h0 : (j 0).val = 0 := by have : (j 0).val < 1 := (j 0).isLt; omega
  have h1 : (j 1).val = 0 := by have : (j 1).val < 1 := (j 1).isLt; omega
  show (j 2).val = ((j 0).val * 1 + (j 1).val) * 256 + (j 2).val
  omega

/-- The chosen indices, block by block. -/
def idxArr (c : Dev nD) : Vec F S32x1x256 .i32 := fun i => k0_pay9 (dist Ve c ((i 0).cast N32.symm)) (ix1 (i 2))

theorem whole4 (t : Fin cfg0.N) (X : Vec F S1x1x256 .i32) (j : S1x1x256.Idx) : (cfg0.win 4).cut (grid0.coords t) X j = X j := rfl

theorem idxArr_at (c : Dev nD) (t : Fin cfg0.N) (i : S32x1x256.Idx) (h : (i 0).cast N32.symm = t) (y : S256.Idx)
    (hy : y = ix1 (i 2)) : idxArr Ve c i = k0_pay9 (dist Ve c t) y := by subst h; subst hy; unfold idxArr; rfl

theorem at_idx (c : Dev nD) (t : Fin cfg0.N) (j : S1x1x256.Idx) :
    idxArr Ve c (((cfg0.win 4).blk t).view.emb j) = k0_pay10 (dist Ve c t) j :=
  ((congrArg (idxArr Ve c) (emb4 t j)).trans (idxArr_at Ve c t _ rfl _ rfl)).trans (pay10_apply (dist Ve c t) j).symm

theorem final4 (c : Dev nD) : (dats Ve 0 c).arrAt 4 cfg0.N = idxArr Ve c :=
  (dats Ve 0 c).arrAt_eq_of_cover 4 (idxArr Ve c) (fun t _ => by
    show (cfg0.win 4).cut (grid0.coords t) ((dats Ve 0 c).after 4 t) = _
    rw [after4']
    rw [show k0_pay10 (dist Ve c t) = fun j => idxArr Ve c (((cfg0.win 4).blk t).view.emb j) from
      funext fun j => (at_idx Ve c t j).symm]
    generalize idxArr Ve c = G
    rfl) (fun i => ⟨(i 0).cast N32.symm, flush0_4 _, by
      have h := ((cfg0.win 4).blk ((i 0).cast N32.symm)).view.emb_mem_set (ix3 (n0 := 1) (n1 := 1) (n2 := 256) 0 0 (i 2) : S1x1x256.Idx)
      rw [emb4] at h
      convert h using 1
      funext a; apply Fin.ext
      match a with
      | ⟨0, _⟩ => rfl
      | ⟨1, _⟩ => show (i 1).val = 0; have : (i 1).val < 1 := (i 1).isLt; omega
      | ⟨2, _⟩ => rfl⟩)

/-- The last point. -/
def last : Fin cfg0.N := ⟨31, by rw [N32]; decide⟩

theorem final5 (c : Dev nD) : (dats Ve 0 c).arrAt 5 cfg0.N = (k0_pay3 (sumAt Ve c 32) : FVec F S1x1 .f32) :=
  (dats Ve 0 c).arrAt_eq_of_cover 5 (k0_pay3 (sumAt Ve c 32) : FVec F S1x1 .f32) (fun t hf => by
    have h3 : t.val = 31 := by have := (flush0_5 t).mp hf; have := t.isLt; have := N32; omega
    show (cfg0.win 5).cut (grid0.coords t) ((dats Ve 0 c).after 5 t) = _
    rw [after5, h3]
    funext j
    show k0_pay3 (sumAt Ve c 32) j = k0_pay3 (sumAt Ve c 32) (((cfg0.win 5).blk t).view.emb j)
    rw [emb5]) (fun i => ⟨last, (flush0_5 _).mpr rfl, by
      have h := ((cfg0.win 5).blk last).view.emb_mem_set i; rwa [emb5] at h⟩)

theorem final6 (c : Dev nD) : (dats Ve 0 c).arrAt 6 cfg0.N = (k0_pay4 (cntAt Ve c 32) : FVec F S1x1 .f32) :=
  (dats Ve 0 c).arrAt_eq_of_cover 6 (k0_pay4 (cntAt Ve c 32) : FVec F S1x1 .f32) (fun t hf => by
    have h3 : t.val = 31 := by have := (flush0_6 t).mp hf; have := t.isLt; have := N32; omega
    show (cfg0.win 6).cut (grid0.coords t) ((dats Ve 0 c).after 6 t) = _
    rw [after6, h3]
    funext j
    show k0_pay4 (cntAt Ve c 32) j = k0_pay4 (cntAt Ve c 32) (((cfg0.win 6).blk t).view.emb j)
    rw [emb6]) (fun i => ⟨last, (flush0_6 _).mpr rfl, by
      have h := ((cfg0.win 6).blk last).view.emb_mem_set i; rwa [emb6] at h⟩)

end Cert.Proof

end
-- ==== Proof.Read.lean ====
/-
  What the kernel's @main leaves in each buffer, read off its operations: the arrays the TensorCore call is entered with,
  the arrays between the calls, and the results.
-/
module

public import proofs.«01_k».proof.Proof.Arrays
public import Idealize.ShloMosaic.Lib.StableHlo.RunRead

@[expose] public section

noncomputable section

namespace Cert.Proof

open Cert.KernelIdeal Cert.KernelIdeal.Gen
open Idealize.ShloMosaic Idealize.ShloMosaic.TcCoe Idealize.ShloMosaic.StableHlo

variable {F : FTy → Type} [FloatOps F] [∀ e, Nonempty (Elt F e)]
variable (m : (ℓ : Loc nD τ sig) → Buf (Elt F) ℓ) (d : Dev nD)

/-- The two arguments. -/
abbrev argZ : FVec F S8x1024x64 .f32 := m ((d.tc : Thread nD τ).loc main_arg0)
abbrev argE : FVec F S4096x64 .f32 := m ((d.tc : Thread nD τ).loc main_arg1)

/-! ## Before the TensorCore call -/

theorem keepA (V : Valuation τ sig (Elt F)) {r : Ref sig .tc} (h : r ∉ ([main_v0, main_v1, main_cst, main_v2, main_v3, main_v4, main_cst_0, main_v5, main_v6, main_v7] : List (Ref sig .tc))) :
    after (ops1 (F := F)) V (Proc.devRef .tc r) = V (Proc.devRef .tc r) := after_unwritten _ rfl h V
theorem keepB (V : Valuation τ sig (Elt F)) {r : Ref sig .tc} (h : r ∉ ([main_v9, main_c, main_call0_v0, main_v10, main_v11] : List (Ref sig .tc))) :
    after (ops2 (F := F)) V (Proc.devRef .tc r) = V (Proc.devRef .tc r) := after_unwritten _ rfl h V
theorem keepC (V : Valuation τ sig (Elt F)) {r : Ref sig .tc} (h : r ∉ ([main_v13, main_v14, main_v15, main_v16, main_v17, main_v18, main_v19] : List (Ref sig .tc))) :
    after (ops3 (F := F)) V (Proc.devRef .tc r) = V (Proc.devRef .tc r) := after_unwritten _ rfl h V

theorem W1_arg0 : W1 m d (Proc.devRef .tc main_arg0) = argZ m d := keepA _ (by decide)
theorem W1_arg1 : W1 m d (Proc.devRef .tc main_arg1) = argE m d := keepA _ (by decide)

/-- The rows of `z`. -/
def zRows : FVec F S8192x64 .f32 := shapeCast S8192x64 (argZ m d) shapeCasts_S8x1024x64_S8192x64

theorem W1_v0 : W1 m d (Proc.devRef .tc main_v0) = zRows m d := by
  unfold W1 ops1; after_results_simp; rfl
theorem W1_v3 : W1 m d (Proc.devRef .tc main_v3) = broadcastInDim S1x4096 ![1] bcast_S4096_S1x4096_1
    (Host.reduceAdd (mulf (argE m d) (argE m d)) (constant S_ .f32 0x00000000#32) reducesTo_S4096x64_S4096_d1 h_S_) := by
  unfold W1 ops1; after_results_simp; rfl
theorem W1_v6 : W1 m d (Proc.devRef .tc main_v6) = broadcastInDim S8192x1 ![0] bcast_S8192_S8192x1_0
    (Host.reduceAdd (mulf (zRows m d) (zRows m d)) (constant S_ .f32 0x00000000#32) reducesTo_S8192x64_S8192_d1 h_S_) := by
  unfold W1 ops1; after_results_simp; rfl
theorem W1_v7 : W1 m d (Proc.devRef .tc main_v7) = transpose S64x4096 [1, 0] (argE m d) transposes_S4096x64_S64x4096_1_0 := by
  unfold W1 ops1; after_results_simp; rfl

/-! ## After it -/

theorem W2_ne (r : Ref sig .tc) (h : ∀ w, Pipeline.arrRef spec0 w ≠ r) : W2 m d (Proc.devRef .tc r) = W1 m d (Proc.devRef .tc r) :=
  Pipeline.withArrays_of_ne spec0 d (W1 m d) (outA (W1 m) d) r h
theorem W2_arg0 : W2 m d (Proc.devRef .tc main_arg0) = argZ m d := (W2_ne m d _ (by decide)).trans (W1_arg0 m d)
theorem W2_arg1 : W2 m d (Proc.devRef .tc main_arg1) = argE m d := (W2_ne m d _ (by decide)).trans (W1_arg1 m d)

theorem W2_v0 : W2 m d (Proc.devRef .tc main_v0) = zRows m d :=
  ((Pipeline.withArrays_arr spec0 launch0.win.arr_inj d (W1 m d) (outA (W1 m) d) 0).trans
    ((dats (entry (W1 m)) 0 d).arrAt_in 0 rfl _)).trans (W1_v0 m d)
theorem W2_v8_0 : W2 m d (Proc.devRef .tc main_v8_0) = idxArr (entry (W1 m)) d :=
  (Pipeline.withArrays_arr spec0 launch0.win.arr_inj d (W1 m d) (outA (W1 m) d) 4).trans (final4 (entry (W1 m)) d)
theorem W2_v8_1 : W2 m d (Proc.devRef .tc main_v8_1) = (k0_pay3 (sumAt (entry (W1 m)) d 32) : FVec F S1x1 .f32) :=
  (Pipeline.withArrays_arr spec0 launch0.win.arr_inj d (W1 m d) (outA (W1 m) d) 5).trans (final5 (entry (W1 m)) d)
theorem W2_v8_2 : W2 m d (Proc.devRef .tc main_v8_2) = (k0_pay4 (cntAt (entry (W1 m)) d 32) : FVec F S1x1 .f32) :=
  (Pipeline.withArrays_arr spec0 launch0.win.arr_inj d (W1 m d) (outA (W1 m) d) 6).trans (final6 (entry (W1 m)) d)

/-! ## Between the calls -/

/-- The chosen indices as one vector. -/
def idxVec : IVec S8192 32 := shapeCast S8192 (idxArr (entry (W1 m)) d) shapeCasts_S32x1x256_S8192

theorem W3_arg0 : W3 m d (Proc.devRef .tc main_arg0) = argZ m d := (keepB _ (by decide)).trans (W2_arg0 m d)
theorem W3_arg1 : W3 m d (Proc.devRef .tc main_arg1) = argE m d := (keepB _ (by decide)).trans (W2_arg1 m d)
theorem W3_v0 : W3 m d (Proc.devRef .tc main_v0) = zRows m d := (keepB _ (by decide)).trans (W2_v0 m d)
theorem W3_v8_1 : W3 m d (Proc.devRef .tc main_v8_1) = (k0_pay3 (sumAt (entry (W1 m)) d 32) : FVec F S1x1 .f32) := (keepB _ (by decide)).trans (W2_v8_1 m d)
theorem W3_v8_2 : W3 m d (Proc.devRef .tc main_v8_2) = (k0_pay4 (cntAt (entry (W1 m)) d 32) : FVec F S1x1 .f32) := (keepB _ (by decide)).trans (W2_v8_2 m d)
theorem W3_v9 : W3 m d (Proc.devRef .tc main_v9) = idxVec m d := by
  unfold W3 ops2; after_results_simp; rw [W2_v8_0]; rfl
theorem idxOf_eq : idxOf m d = shapeCast S1x8192 (idxVec m d) shapeCasts_S8192_S1x8192 := by
  unfold idxOf W3 ops2; after_results_simp; rw [W2_v8_0]; rfl
theorem tabOf_eq : tabOf m d = pad S4096x128 ![0, 0] ![0, 64] ![0, 0] (argE m d) (sitofp .f32 (constantI S_ 32 0#32)) pads_S4096x64_S4096x128_000_0640 h_S_ := by
  unfold tabOf W3 ops2; after_results_simp; rw [W2_arg1]

/-! ## The results -/

theorem W5_arg0 : W5 m d (Proc.devRef .tc main_arg0) = argZ m d :=
  ((keepC _ (by decide)).trans (W4_ne m d _ (by decide))).trans (W3_arg0 m d)
theorem W5_arg1 : W5 m d (Proc.devRef .tc main_arg1) = argE m d :=
  ((keepC _ (by decide)).trans (W4_ne m d _ (by decide))).trans (W3_arg1 m d)
theorem W5_v16 : W5 m d (Proc.devRef .tc main_v16) = shapeCast S8x1024x64
    (addf (zRows m d) (subf (extractStridedSlice S8192x64 ![0, 0] (gath (tabOf m d) (idxOf m d)) slices_S8192x128_S8192x64_0_0) (zRows m d)))
    shapeCasts_S8192x64_S8x1024x64 := by
  unfold W5 ops3; after_results_simp; rw [W4_v12, W4_ne m d _ (by decide), W3_v0]; rfl
theorem W5_v17 : W5 m d (Proc.devRef .tc main_v17) = shapeCast S8x1024 (idxVec m d) shapeCasts_S8192_S8x1024 := by
  unfold W5 ops3; after_results_simp; rw [W4_ne m d _ (by decide), W3_v9]; rfl
theorem W5_v18 : W5 m d (Proc.devRef .tc main_v18) = shapeCast S_ (k0_pay3 (sumAt (entry (W1 m)) d 32) : FVec F S1x1 .f32) shapeCasts_S1x1_S_ := by
  unfold W5 ops3; after_results_simp; rw [W4_ne m d _ (by decide), W3_v8_1]; rfl
theorem W5_v19 : W5 m d (Proc.devRef .tc main_v19) = shapeCast S_ (k0_pay4 (cntAt (entry (W1 m)) d 32) : FVec F S1x1 .f32) shapeCasts_S1x1_S_ := by
  unfold W5 ops3; after_results_simp; rw [W4_ne m d _ (by decide), W3_v8_2]; rfl

/-- The chosen index of a row. -/
theorem idxVec_apply (n : Fin 8192) : idxVec m d (ix1 n) = k0_pay9 (dist (entry (W1 m)) d (pt n)) (ix1 (pl n)) := by
  unfold idxVec
  refine (shapeCast_apply (idxArr (entry (W1 m)) d) _ (ix1 n) (ix3 (n0 := 32) (n1 := 1) (n2 := 256) ((pt n).cast N32) 0 (pl n)) ?_).trans ?_
  · rw [Shape.rowMajor_val_one, Shape.rowMajor_val_three]
    have := congrArg Fin.val (row_pt_pl n)
    show ((pt n).val * 1 + 0) * 256 + (pl n).val = n.val
    have e : (row (pt n) (pl n)).val = (pt n).val * 256 + (pl n).val := rfl
    omega
  · exact idxArr_at _ d (pt n) _ rfl _ rfl

theorem idxOf_apply (n : Fin 8192) : idxOf m d (ix2 0 n) = idxVec m d (ix1 n) := by
  rw [idxOf_eq]
  refine shapeCast_apply _ _ _ (ix1 n) ?_
  rw [Shape.rowMajor_val_one, Shape.rowMajor_val_two]
  show n.val = 0 * 8192 + n.val
  omega

end Cert.Proof

end
-- ==== Proof.ArgMin.lean ====
/-
  The smallest index at which a row is least: the property both programs' index searches have, and that it names one
  index.
-/
module

public import proofs.«01_k».proof.Proof.Main
public import Idealize.ShloMosaic.Lib.Pipeline.Value
public import Idealize.ShloMosaic.Lib.Pointwise.Index
public import Idealize.ShloMosaic.Lib.ValueLayoutCasts
public import Idealize.ShloMosaic.PureOps.Ideal.Laws
public import proofs.«01_k».proof.Proof.Gen.ReferenceIdeal

@[expose] public section

noncomputable section

namespace Cert.Proof

open Idealize.ShloMosaic Idealize.ShloMosaic.TcCoe

/-- `k` is the first of the indices at which `f` is least. -/
def IsFirst (f : Fin 4096 → EReal) (k : Fin 4096) : Prop := (∀ j, f k ≤ f j) ∧ ∀ j, f j = f k → k ≤ j

theorem IsFirst.unique {f : Fin 4096 → EReal} {k k' : Fin 4096} (h : IsFirst f k) (h' : IsFirst f k') : k = k' := by
  have e : f k = f k' := le_antisymm (h.1 _) (h'.1 _)
  exact le_antisymm (h.2 _ e.symm) (h'.2 _ e)

theorem isFirst_exists (f : Fin 4096 → EReal) : ∃ k, IsFirst f k := by
  obtain ⟨k0, -, h0⟩ := Finset.exists_min_image Finset.univ f ⟨0, Finset.mem_univ _⟩
  have hne : (Finset.univ.filter fun k => f k = f k0).Nonempty := ⟨k0, by simp⟩
  refine ⟨(Finset.univ.filter fun k => f k = f k0).min' hne, ?_, ?_⟩
  · have := (Finset.mem_filter.mp (Finset.min'_mem _ hne)).2
    intro j; rw [this]; exact h0 j (Finset.mem_univ _)
  · have := (Finset.mem_filter.mp (Finset.min'_mem _ hne)).2
    intro j hj
    exact Finset.min'_le _ j (Finset.mem_filter.mpr ⟨Finset.mem_univ _, hj.trans this⟩)

/-- The first index at which `f` is least. -/
def argm (f : Fin 4096 → EReal) : Fin 4096 := (isFirst_exists f).choose
theorem argm_spec (f : Fin 4096 → EReal) : IsFirst f (argm f) := (isFirst_exists f).choose_spec

/-- The word of an index. -/
abbrev wd (k : Fin 4096) : BitVec 32 := BitVec.ofNat 32 k.val

theorem wd_toNat (k : Fin 4096) : (wd k).toNat = k.val := by
  rw [BitVec.toNat_ofNat, Nat.mod_eq_of_lt]; have := k.isLt; omega
theorem wd_toInt (k : Fin 4096) : (wd k).toInt = k.val := by
  rw [BitVec.toInt_eq_toNat_of_lt (by rw [wd_toNat]; have := k.isLt; omega), wd_toNat]

theorem minsi_toInt (x y : BitVec 32) : (IntOp.minsi x y).toInt = min x.toInt y.toInt := by
  unfold IntOp.minsi
  by_cases h : x.slt y
  · rw [if_pos h]; have := BitVec.slt_iff_toInt_lt.mp h; omega
  · rw [if_neg h]; have := mt BitVec.slt_iff_toInt_lt.mpr h; omega
theorem minsi_or (x y : BitVec 32) : IntOp.minsi x y = x ∨ IntOp.minsi x y = y := by
  unfold IntOp.minsi; split <;> simp

theorem fold_minsi [Std.Commutative (IntOp.minsi (w := 32))] [Std.Associative (IntOp.minsi (w := 32))] (w : Fin 4096 → BitVec 32) (b : BitVec 32)
    (s : Finset (Fin 4096)) : (∀ k ∈ s, (s.fold IntOp.minsi b w).toInt ≤ (w k).toInt) ∧
      (s.fold IntOp.minsi b w = b ∨ ∃ k ∈ s, s.fold IntOp.minsi b w = w k) := by
  induction s using Finset.induction_on with
  | empty => simp
  | @insert a s ha ih =>
    rw [Finset.fold_insert ha]
    obtain ⟨h1, h2⟩ := ih
    constructor
    · intro k hk
      rw [minsi_toInt]
      rcases Finset.mem_insert.mp hk with rfl | hk
      · exact min_le_left _ _
      · exact (min_le_right _ _).trans (h1 k hk)
    · rcases minsi_or (w a) (s.fold IntOp.minsi b w) with h | h
      · exact .inr ⟨a, Finset.mem_insert_self .., h⟩
      · rw [h]
        rcases h2 with h2 | ⟨k, hk, h2⟩
        · exact .inl h2
        · exact .inr ⟨k, Finset.mem_insert_of_mem hk, h2⟩

theorem fold_min_eq (f : Fin 4096 → EReal) {k : Fin 4096} (hk : ∀ j, f k ≤ f j) : Finset.univ.fold min ⊤ f = f k := by
  refine le_antisymm ?_ ?_
  · exact (Finset.fold_min_le _).mpr (.inr ⟨k, Finset.mem_univ _, le_rfl⟩)
  · exact (Finset.le_fold_min _).mpr ⟨le_top, fun j _ => hk j⟩

/-- The smallest of the indices kept where `f` is least is the first of them. -/
theorem fold_select [Std.Commutative (IntOp.minsi (w := 32))] [Std.Associative (IntOp.minsi (w := 32))] (f : Fin 4096 → EReal) (w : Fin 4096 → BitVec 32)
    (hw : ∀ k, w k = if f k = Finset.univ.fold min ⊤ f then wd k else 4096#32) :
    Finset.univ.fold IntOp.minsi 2147483647#32 w = wd (argm f) := by
  obtain ⟨hm, hf⟩ := argm_spec f
  have hM := fold_min_eq f hm
  rw [hM] at hw
  obtain ⟨h1, h2⟩ := fold_minsi w 2147483647#32 Finset.univ
  have h1' := h1 (argm f) (Finset.mem_univ _)
  rw [hw (argm f), if_pos rfl, wd_toInt] at h1'
  have hlt := (argm f).isLt
  rcases h2 with h2 | ⟨k, -, h2⟩
  · rw [h2, show (2147483647#32).toInt = 2147483647 from by decide] at h1'; omega
  · rw [h2] at h1' ⊢
    rw [hw k] at h1' ⊢
    by_cases hk : f k = f (argm f)
    · rw [if_pos hk] at h1' ⊢
      rw [wd_toInt] at h1'
      have := hf k hk
      rw [le_antisymm (show k ≤ argm f from by rw [Fin.le_def]; omega) this]
    · rw [if_neg hk, show (4096#32).toInt = 4096 from by decide] at h1'; omega

/-! ## The reference's search -/

open Cert.ReferenceIdeal in
theorem red_eq (a b : EReal × BitVec 32) : reducer_argmin_f32_i32 (F := Ideal) a b =
    (if a.1 < b.1 then a.1 else b.1, if a.1 < b.1 ∨ (a.1 = b.1 ∧ a.2.toInt < b.2.toInt) then a.2 else b.2) := by
  have h1 : FloatOps.cmpf (F := Ideal) (φ := .f32) .olt a.1 b.1 = BitVec.ofBool (decide (a.1 < b.1)) := rfl
  have h2 : FloatOps.cmpf (F := Ideal) (φ := .f32) .une a.1 a.1 = BitVec.ofBool (decide (a.1 ≠ a.1)) := rfl
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := rfl
  unfold reducer_argmin_f32_i32
  simp only [h1, h2, h3, h4]
  unfold Scalar.select IntOp.ori IntOp.andi
  by_cases c1 : a.1 < b.1 <;> by_cases c2 : a.1 = b.1 <;> by_cases c3 : a.2.toInt < b.2.toInt <;> simp [c1, c2, c3]

open Cert.ReferenceIdeal in
theorem foldl_red (L : List (EReal × BitVec 32)) (a : EReal × BitVec 32) :
    let r := L.foldl (reducer_argmin_f32_i32 (F := Ideal)) a
    (r = a ∨ r ∈ L) ∧ (∀ p, p = a ∨ p ∈ L → r.1 ≤ p.1 ∧ (p.1 = r.1 → r.2.toInt ≤ p.2.toInt)) := by
  induction L generalizing a with
  | nil => simp
  | cons b L ih =>
    intro r
    obtain ⟨h1, h2⟩ := ih (reducer_argmin_f32_i32 (F := Ideal) a b)
    have hr : reducer_argmin_f32_i32 (F := Ideal) a b = a ∨ reducer_argmin_f32_i32 (F := Ideal) a b = b := by
      rw [red_eq]
      rcases lt_trichotomy a.1 b.1 with h | h | h
      · left; simp [h]
      · by_cases h' : a.2.toInt < b.2.toInt
        · left; apply Prod.ext <;> simp [h, h']
        · right; apply Prod.ext <;> simp [h, h']
      · right; apply Prod.ext <;> simp [not_lt_of_gt h, ne_of_gt h]
    have hle : ∀ p, p = a ∨ p = b → (reducer_argmin_f32_i32 (F := Ideal) a b).1 ≤ p.1 ∧
        (p.1 = (reducer_argmin_f32_i32 (F := Ideal) a b).1 → (reducer_argmin_f32_i32 (F := Ideal) a b).2.toInt ≤ p.2.toInt) := by
      rw [red_eq]
      rcases lt_trichotomy a.1 b.1 with h | h | h
      · rintro p (rfl | rfl)
        · simp [h]
        · simp [h, h.le, ne_of_gt h]
      · by_cases h' : a.2.toInt < b.2.toInt
        · rintro p (rfl | rfl)
          · simp [h, h']
          · simp [h, h', h'.le]
        · rintro p (rfl | rfl)
          · simp [h, h']; omega
          · simp [h, h']
      · rintro p (rfl | rfl)
        · simp [not_lt_of_gt h, h.le, ne_of_gt h]
        · simp [not_lt_of_gt h, ne_of_gt h]
    constructor
    · rcases h1 with h1 | h1
      · rcases hr with hr | hr
        · left; exact h1.trans hr
        · right; exact List.mem_cons.mpr (.inl (h1.trans hr))
      · right; exact List.mem_cons_of_mem _ h1
    · have h0 := h2 _ (.inl rfl)
      have key : ∀ p, p = a ∨ p = b → r.1 ≤ p.1 ∧ (p.1 = r.1 → r.2.toInt ≤ p.2.toInt) := fun p hp => by
        obtain ⟨l1, l2⟩ := hle p hp
        refine ⟨h0.1.trans l1, fun e => ?_⟩
        have e1 : (reducer_argmin_f32_i32 (F := Ideal) a b).1 = r.1 := le_antisymm (e ▸ l1) h0.1
        exact (h0.2 e1).trans (l2 (e.trans e1.symm))
      rintro p (rfl | hp)
      · exact key _ (.inl rfl)
      · rcases List.mem_cons.mp hp with rfl | hp
        · exact key _ (.inr rfl)
        · exact h2 p (.inr hp)

open Cert.ReferenceIdeal in
theorem foldl_first (f : Fin 4096 → EReal) (L : List (EReal × BitVec 32)) (hL : ∀ p, p ∈ L ↔ ∃ k, p = (f k, wd k)) :
    (L.foldl (reducer_argmin_f32_i32 (F := Ideal)) (⊤, 0#32)).2 = wd (argm f) := by
  obtain ⟨h1, h2⟩ := foldl_red L (⊤, 0#32)
  generalize L.foldl (reducer_argmin_f32_i32 (F := Ideal)) (⊤, 0#32) = r at h1 h2
  have hr : ∃ k, r = (f k, wd k) := by
    rcases h1 with h1 | h1
    · have := (h2 (f 0, wd 0) (.inr ((hL _).mpr ⟨0, rfl⟩))).1
      rw [h1] at this ⊢
      exact ⟨0, Prod.ext (top_le_iff.mp this).symm rfl⟩
    · exact (hL _).mp h1
  obtain ⟨k, rfl⟩ := hr
  have : IsFirst f k := ⟨fun j => (h2 _ (.inr ((hL _).mpr ⟨j, rfl⟩))).1, fun j e => by
    have := (h2 _ (.inr ((hL _).mpr ⟨j, rfl⟩))).2 e
    simp only [wd_toInt] at this
    rw [Fin.le_def]; omega⟩
  rw [this.unique (argm_spec f)]

end Cert.Proof

end
-- ==== Proof.Search.lean ====
/-
  Both programs' index searches, read at a row: each finds the first index at which the row of distances is least, the
  kernel as the smallest of the indices kept by a comparison with the row's minimum, the reference by a fold over pairs.
-/
module

public import proofs.«01_k».proof.Proof.ArgMin

@[expose] public section

noncomputable section

namespace Cert.Proof

open Idealize.ShloMosaic Idealize.ShloMosaic.TcCoe

theorem ofBits_inf : Ideal.ofBits .f32 0x7F800000#32 = ⊤ := by simp [Ideal.ofBits, Ideal.ieee]

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext c; apply Fin.ext
  fin_cases c <;> rfl

section Kernel
open Cert.KernelIdeal Cert.KernelIdeal.Gen

/-- The kernel's row minimum. -/
theorem pay8_apply (X : FVec Ideal S256x4096 .f32) (r : Fin 256) :
    (k0_pay8 (F := Ideal) X (ix2 r 0) : EReal) = Finset.univ.fold min ⊤ fun k : Fin 4096 => (X (ix2 r k) : EReal) := by
  unfold k0_pay8
  refine (ValueIdx.shapeCast_a_a1_apply _ _ r 0).trans ?_
  refine (multiReduction_minimumf_eq_fold (F := Ideal) (φ := .f32) (s := S256x4096) (t := S256) (axes := [1]) X 0x7F800000#32 reduces_S256x4096_S256 (.inl rfl) rfl (ix1 r)).trans ?_
  refine (Shape.Reduces.fold_filter_drop_single reduces_S256x4096_S256 (min : EReal → EReal → EReal) _ X (ix1 r)).trans ?_
  have hb : (FloatOps.ofBits (F := Ideal) .f32 0x7F800000#32 : EReal) = ⊤ := ofBits_inf
  rw [hb]
  exact congrArg (fun g => Finset.univ.fold min (⊤ : EReal) g) (funext fun k => congrArg X (lift_row _ r k))

/-- The kernel's chosen index of a row. -/
theorem pay9_apply (X : FVec Ideal S256x4096 .f32) (r : Fin 256) :
    k0_pay9 (F := Ideal) X (ix1 r) = wd (argm fun k => (X (ix2 r k) : EReal)) := by
  unfold k0_pay9
  refine (multiReductionI_eq_fold .minsi (s := S256x4096) (t := S256) (axes := [1]) _ 2147483647#32 reduces_S256x4096_S256 rfl (ix1 r)).trans ?_
  refine (Shape.Reduces.fold_filter_drop_single reduces_S256x4096_S256 IKind.minsi.op _ _ (ix1 r)).trans ?_
  refine fold_select (fun k => (X (ix2 r k) : EReal)) _ fun k => ?_
  show Scalar.select (Ideal.cmp .oeq (X (reduces_S256x4096_S256.lift (ix1 r) k)) (broadcastTo S256x4096 (k0_pay8 (F := Ideal) X) broadcasts_S256x1_S256x4096 (reduces_S256x4096_S256.lift (ix1 r) k)))
    (iota .tc S256x4096 32 [1] iota_S256x4096_d1_w32 (reduces_S256x4096_S256.lift (ix1 r) k)) 4096#32 = _
  rw [lift_row reduces_S256x4096_S256 r k, broadcastTo_apply _ broadcasts_S256x1_S256x4096 _ (ix2 r 0) (fun a => by
    match a with
    | ⟨0, _⟩ => rfl
    | ⟨1, _⟩ => rfl), pay8_apply]
  unfold Scalar.select Ideal.cmp
  have hi : iota .tc S256x4096 32 [1] iota_S256x4096_d1_w32 (ix2 r k) = wd k := by
    show BitVec.ofNat 32 (0 * 4096 + k.val) = _
    rw [Nat.zero_mul, Nat.zero_add]
  by_cases h : (X (ix2 r k) : EReal) = Finset.univ.fold min ⊤ fun k : Fin 4096 => (X (ix2 r k) : EReal)
  · rw [if_pos h, if_pos (by rw [decide_eq_true h]; rfl)]; exact hi
  · rw [if_neg h, if_neg (by rw [decide_eq_false h]; show ¬ (BitVec.ofBool false = 1#1); decide)]

/-- The least distance of a row is the distance at the chosen index. -/
theorem pay8_argm (X : FVec Ideal S256x4096 .f32) (r : Fin 256) :
    (k0_pay8 (F := Ideal) X (ix2 r 0) : EReal) = X (ix2 r (argm fun k => (X (ix2 r k) : EReal))) := by
  rw [pay8_apply]; exact fold_min_eq _ (argm_spec fun k => (X (ix2 r k) : EReal)).1
end Kernel

section Reference
open Cert.ReferenceIdeal Cert.ReferenceIdeal.Gen

theorem reduces_rows : S8192x4096.Reduces [1] S8192 := by decide

/-- The reference's chosen index of a row. -/
theorem ref_argmin (D : FVec Ideal S8192x4096 .f32) (n : Fin 8192) :
    (Host.argReduce (F := Ideal) (φ := .f32) reducer_argmin_f32_i32 D (iotaInDim S8192x4096 32 1) (constant S_ .f32 0x7F800000#32) (constantI S_ 32 0#32)
      reducesTo_S8192x4096_S8192_d1 h_S_ (ix1 n)).2 = wd (argm fun k => (D (ix2 n k) : EReal)) := by
  rw [Ideal.argReduce_eq_reduce2, Host.reduce2_eq_foldl_fiber]
  have hb : (constant (F := Ideal) S_ .f32 0x7F800000#32 (Shape.Idx.first h_S_), constantI S_ 32 0#32 (Shape.Idx.first h_S_)) = ((⊤ : EReal), 0#32) :=
    Prod.ext ofBits_inf rfl
  rw [hb]
  refine foldl_first (fun k => (D (ix2 n k) : EReal)) _ fun p => ?_
  unfold Host.argReduceFiber
  simp only [List.mem_map, List.mem_filter, List.mem_finRange, true_and, decide_eq_true_eq]
  constructor
  · rintro ⟨i, hi, rfl⟩
    rw [Shape.ReducesTo.drop_eq_drop _ reduces_rows] at hi
    have hl := reduces_rows.lift_drop (S8192x4096.rowMajor.symm i)
    rw [hi, lift_row] at hl
    rw [← hl]
    exact ⟨_, rfl⟩
  · rintro ⟨k, rfl⟩
    refine ⟨S8192x4096.rowMajor (ix2 n k), ?_, ?_⟩
    · rw [Equiv.symm_apply_apply, Shape.ReducesTo.drop_eq_drop _ reduces_rows]
      have := reduces_rows.drop_lift (ix1 n) k
      rw [lift_row reduces_rows n k] at this
      exact this
    · rw [Equiv.symm_apply_apply]; rfl
end Reference

end Cert.Proof

end
-- ==== Proof.Frame.lean ====
/-
  Over the extended reals the kernel's index is always one of the table's rows, so that the program runs: the frame of the
  kernel, and the results it leaves.
-/
module

public import proofs.«01_k».proof.Proof.Read
public import proofs.«01_k».proof.Proof.Search

@[expose] public section

noncomputable section

namespace Cert.Proof

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (d : Dev nD)

/-- The place of the least distance of a row. -/
def best (n : Fin 8192) : Fin 4096 := argm fun k => dist (entry (W1 m)) d (pt n) (ix2 (pl n) k)

theorem idxVec_best (n : Fin 8192) : idxVec m d (ix1 n) = wd (best m d n) :=
  (idxVec_apply m d n).trans (pay9_apply _ _)

theorem idxOf_best (n : Fin 8192) : idxOf m d (ix2 0 n) = wd (best m d n) :=
  (idxOf_apply m d n).trans (idxVec_best m d n)

theorem idxOf_lt (j : S1x8192.Idx) : (idxOf m d j).toNat < 4096 := by
  have e : j = ix2 0 (j 1) := by
    funext a; fin_cases a
    · exact Subsingleton.elim (α := Fin 1) _ _
    · rfl
  rw [e]
  refine lt_of_eq_of_lt (congrArg BitVec.toNat (idxOf_best m d (j 1))) ?_
  rw [wd_toNat]
  exact (best m d (j 1)).isLt

theorem run_kernel (ρ : Dev nD → PrngReg) :
    θ_run (Cert.KernelIdeal.defs (F := Ideal)) (Cert.KernelIdeal.threads (F := Ideal)) ⟨m, fun _ => 0, ρ⟩ (QC m) :=
  run_main m ρ (fun d j => idxOf_lt m d j)

theorem QC_at {m : (ℓ : Loc nD τ sig) → Buf (Elt Ideal) ℓ} {r} (h : QC m r) (c : Dev nD) (b : Ref sig .tc)
    (hb : Proc.devRef .tc b ∈ Pipeline.ucRefs τ sig) :
    r.2.mem ((c.tc : Thread nD τ).loc b) = W5 m c (Proc.devRef .tc b) := h.1 c _ hb

theorem frame_kernel (ρ : Dev nD → PrngReg) :
    θ_run (Cert.KernelIdeal.defs (F := Ideal)) (Cert.KernelIdeal.threads (F := Ideal)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨(QC_at h c main_arg0 (by decide)).trans (W5_arg0 m c), (QC_at h c main_arg1 (by decide)).trans (W5_arg1 m c)⟩, h.2⟩)
    (run_kernel m ρ)

end Cert.Proof

end
-- ==== Proof.Ref.lean ====
/-
  The reference's run, stated by hand: its operations as eight lists, and that it runs with every buffer at what the
  lists leave there and every semaphore at zero.
-/
module

public import proofs.«01_k».proof.Defs
public import Idealize.ShloMosaic.Lib.StableHlo.Run
public import Idealize.ShloMosaic.Lib.StableHlo.RunRead
public import Idealize.ShloMosaic.Lib.Pipeline.Frame
public import proofs.«01_k».proof.Proof.Gen.KernelIdeal
public import proofs.«01_k».proof.Proof.Gen.ReferenceIdeal

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

def r1 : List (HloOp τ sig (Elt F)) :=
  [StableHlo.reshape main_arg0 main_v0 (rfl : (.f32 : EltTy) = .f32) shapeCasts_S8x1024x64_S8192x64,
    StableHlo.binary main_v0 main_v0 main_v1 (mulf : (⟨S8192x64, .f32⟩ : BufTy).Contents (Elt F) → (⟨S8192x64, .f32⟩ : BufTy).Contents (Elt F) → (⟨S8192x64, .f32⟩ : BufTy).Contents (Elt F)),
    StableHlo.nullary main_cst (constant S_ .f32 0x00000000#32),
    StableHlo.binary main_v1 main_cst main_v2 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x40000000#32),
    StableHlo.unary main_cst_0 main_v4 (broadcastInDim S8192x64 ![] bcast_S_S8192x64 : (⟨S_, .f32⟩ : BufTy).Contents (Elt F) → (⟨S8192x64, .f32⟩ : BufTy).Contents (Elt F)),
    StableHlo.binary main_v4 main_v0 main_v5 (mulf : (⟨S8192x64, .f32⟩ : BufTy).Contents (Elt F) → (⟨S8192x64, .f32⟩ : BufTy).Contents (Elt F) → (⟨S8192x64, .f32⟩ : BufTy).Contents (Elt F)),
    StableHlo.unary main_arg1 main_v6 ((transpose S64x4096 [1, 0] · transposes_S4096x64_S64x4096_1_0) : (⟨S4096x64, .f32⟩ : BufTy).Contents (Elt F) → (⟨S64x4096, .f32⟩ : BufTy).Contents (Elt F)),
    StableHlo.binary main_v5 main_v6 main_v7 ((fun l r => Host.dotGeneral dot_S8192x64_S64x4096_S8192x4096_1_0_0_1_n_n none l r) : (⟨S8192x64, .f32⟩ : BufTy).Contents (Elt F) → (⟨S64x4096, .f32⟩ : BufTy).Contents (Elt F) → (⟨S8192x4096, .f32⟩ : BufTy).Contents (Elt F)),
    StableHlo.unary main_v3 main_v8 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v8 main_v7 main_v9 (subf : (⟨S8192x4096, .f32⟩ : BufTy).Contents (Elt F) → (⟨S8192x4096, .f32⟩ : BufTy).Contents (Elt F) → (⟨S8192x4096, .f32⟩ : BufTy).Contents (Elt F)),
    StableHlo.binary main_arg1 main_arg1 main_v10 (mulf : (⟨S4096x64, .f32⟩ : BufTy).Contents (Elt F) → (⟨S4096x64, .f32⟩ : BufTy).Contents (Elt F) → (⟨S4096x64, .f32⟩ : BufTy).Contents (Elt F)),
    StableHlo.nullary main_cst_1 (constant S_ .f32 0x00000000#32),
    StableHlo.binary main_v10 main_cst_1 main_v11 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v11 main_v12 (broadcastInDim S1x4096 ![1] bcast_S4096_S1x4096_1 : (⟨S4096, .f32⟩ : BufTy).Contents (Elt F) → (⟨S1x4096, .f32⟩ : BufTy).Contents (Elt F)),
    StableHlo.unary main_v12 main_v13 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v9 main_v13 main_v14 (addf : (⟨S8192x4096, .f32⟩ : BufTy).Contents (Elt F) → (⟨S8192x4096, .f32⟩ : BufTy).Contents (Elt F) → (⟨S8192x4096, .f32⟩ : BufTy).Contents (Elt F))]

def r2 : List (HloOp τ sig (Elt F)) :=
  [StableHlo.nullary main_call0_v0 (iotaInDim S8192x4096 32 1 : (⟨S8192x4096, .i32⟩ : BufTy).Contents (Elt F)),
    StableHlo.nullary main_call0_cst (constant S_ .f32 0x7F800000#32),
    StableHlo.nullary main_call0_c (constantI S_ 32 0#32),
    StableHlo.quaternary main_v14 main_call0_v0 main_call0_cst main_call0_c main_call0_v1_0 ((fun x y u v j => (Host.argReduce reducer_argmin_f32_i32 x y u v reducesTo_S8192x4096_S8192_d1 h_S_ j).1) : (⟨S8192x4096, .f32⟩ : BufTy).Contents (Elt F) → (⟨S8192x4096, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v14 main_call0_v0 main_call0_cst main_call0_c main_v15 ((fun x y u v j => (Host.argReduce reducer_argmin_f32_i32 x y u v reducesTo_S8192x4096_S8192_d1 h_S_ j).2) : (⟨S8192x4096, .f32⟩ : BufTy).Contents (Elt F) → (⟨S8192x4096, .i32⟩ : BufTy).Contents (Elt F) → (⟨S_, .f32⟩ : BufTy).Contents (Elt F) → (⟨S_, .i32⟩ : BufTy).Contents (Elt F) → (⟨S8192, .i32⟩ : BufTy).Contents (Elt F))]

def r3 : List (HloOp τ sig (Elt F)) :=
  [StableHlo.nullary main_call1_c ((constantI S_ 32 0#32) : (⟨S_, .i32⟩ : BufTy).Contents (Elt F)),
    StableHlo.unary main_call1_c main_call1_v0 ((broadcastInDim S8192 ![] bcast_S_S8192) : (⟨S_, .i32⟩ : BufTy).Contents (Elt F) → (⟨S8192, .i32⟩ : BufTy).Contents (Elt F)),
    StableHlo.binary main_v15 main_call1_v0 main_call1_v1 ((cmpi .slt) : (⟨S8192, .i32⟩ : BufTy).Contents (Elt F) → (⟨S8192, .i32⟩ : BufTy).Contents (Elt F) → (⟨S8192, .i1⟩ : BufTy).Contents (Elt F)),
    StableHlo.nullary main_call1_c_0 ((constantI S_ 32 4096#32) : (⟨S_, .i32⟩ : BufTy).Contents (Elt F)),
    StableHlo.unary main_call1_c_0 main_call1_v2 ((broadcastInDim S8192 ![] bcast_S_S8192) : (⟨S_, .i32⟩ : BufTy).Contents (Elt F) → (⟨S8192, .i32⟩ : BufTy).Contents (Elt F)),
    StableHlo.binary main_v15 main_call1_v2 main_call1_v3 (addi : (⟨S8192, .i32⟩ : BufTy).Contents (Elt F) → (⟨S8192, .i32⟩ : BufTy).Contents (Elt F) → (⟨S8192, .i32⟩ : BufTy).Contents (Elt F)),
    StableHlo.ternary main_call1_v1 main_call1_v3 main_v15 main_call1_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_call1_v4 main_call1_v5 ((broadcastInDim S8192x1 ![0] bcast_S8192_S8192x1_0) : (⟨S8192, .i32⟩ : BufTy).Contents (Elt F) → (⟨S8192x1, .i32⟩ : BufTy).Contents (Elt F)),
    StableHlo.nullary main_call1_c_1 ((constantI S1 32 4095#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S8192x1 ![] bcast_S_S8192x1) : (⟨S_, .i32⟩ : BufTy).Contents (Elt F) → (⟨S8192x1, .i32⟩ : BufTy).Contents (Elt F)),
    StableHlo.binary main_call1_v5 main_call1_v6 main_call1_v7 ((cmpi .sge) : (⟨S8192x1, .i32⟩ : BufTy).Contents (Elt F) → (⟨S8192x1, .i32⟩ : BufTy).Contents (Elt F) → (⟨S8192x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S8192x1 ![0, 1] bcast_S1x1_S8192x1_0_1) : (⟨S1x1, .i32⟩ : BufTy).Contents (Elt F) → (⟨S8192x1, .i32⟩ : BufTy).Contents (Elt F)),
    StableHlo.binary main_call1_v5 main_call1_v9 main_call1_v10 ((cmpi .sle) : (⟨S8192x1, .i32⟩ : BufTy).Contents (Elt F) → (⟨S8192x1, .i32⟩ : BufTy).Contents (Elt F) → (⟨S8192x1, .i1⟩ : BufTy).Contents (Elt F)),
    StableHlo.binary main_call1_v7 main_call1_v10 main_call1_v11 (andi : (⟨S8192x1, .i1⟩ : BufTy).Contents (Elt F) → (⟨S8192x1, .i1⟩ : BufTy).Contents (Elt F) → (⟨S8192x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S8192x1_S8192_d1 h_S_) : (⟨S8192x1, .i1⟩ : BufTy).Contents (Elt F) → (⟨S_, .i1⟩ : BufTy).Contents (Elt F) → (⟨S8192, .i1⟩ : BufTy).Contents (Elt F)),
    StableHlo.binary main_arg1 main_call1_v5 main_call1_v13 ((fun x i => Host.gather gather_S4096x64_S8192x1_S8192x64_1_0_n_n_0_1_164 x i) : (⟨S4096x64, .f32⟩ : BufTy).Contents (Elt F) → (⟨S8192x1, .i32⟩ : BufTy).Contents (Elt F) → (⟨S8192x64, .f32⟩ : BufTy).Contents (Elt F)),
    StableHlo.unary main_call1_v12 main_call1_v14 ((broadcastInDim S8192x64 ![0] bcast_S8192_S8192x64_0) : (⟨S8192, .i1⟩ : BufTy).Contents (Elt F) → (⟨S8192x64, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S8192x64 ![] bcast_S_S8192x64) : (⟨S_, .f32⟩ : BufTy).Contents (Elt F) → (⟨S8192x64, .f32⟩ : BufTy).Contents (Elt F)),
    StableHlo.ternary main_call1_v14 main_call1_v13 main_call1_v15 main_v16 (select : (⟨S8192x64, .i1⟩ : BufTy).Contents (Elt F) → (⟨S8192x64, .f32⟩ : BufTy).Contents (Elt F) → (⟨S8192x64, .f32⟩ : BufTy).Contents (Elt F) → (⟨S8192x64, .f32⟩ : BufTy).Contents (Elt F))]

def r4 : List (HloOp τ sig (Elt F)) :=
  [StableHlo.binary main_v0 main_v16 main_v17 (subf : (⟨S8192x64, .f32⟩ : BufTy).Contents (Elt F) → (⟨S8192x64, .f32⟩ : BufTy).Contents (Elt F) → (⟨S8192x64, .f32⟩ : BufTy).Contents (Elt F)),
    StableHlo.binary main_v17 main_v17 main_v18 (mulf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x00000000#32),
    StableHlo.binary main_v18 main_cst_2 main_v19 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_3 (constant S_ .f32 0x49000000#32),
    StableHlo.binary main_v19 main_cst_3 main_v20 (Host.divf : (⟨S_, .f32⟩ : BufTy).Contents (Elt F) → (⟨S_, .f32⟩ : BufTy).Contents (Elt F) → (⟨S_, .f32⟩ : BufTy).Contents (Elt F))]

def r5 : List (HloOp τ sig (Elt F)) :=
  [StableHlo.binary main_v16 main_v0 main_v21 (subf : (⟨S8192x64, .f32⟩ : BufTy).Contents (Elt F) → (⟨S8192x64, .f32⟩ : BufTy).Contents (Elt F) → (⟨S8192x64, .f32⟩ : BufTy).Contents (Elt F)),
    StableHlo.binary main_v0 main_v21 main_v22 (addf : (⟨S8192x64, .f32⟩ : BufTy).Contents (Elt F) → (⟨S8192x64, .f32⟩ : BufTy).Contents (Elt F) → (⟨S8192x64, .f32⟩ : BufTy).Contents (Elt F))]

def r6 : List (HloOp τ sig (Elt F)) :=
  [StableHlo.nullary main_cst_4 (constant S_ .f32 0x00000000#32),
    StableHlo.unary main_cst_4 main_v23 (broadcastInDim S4096 ![] bcast_S_S4096 : (⟨S_, .f32⟩ : BufTy).Contents (Elt F) → (⟨S4096, .f32⟩ : BufTy).Contents (Elt F)),
    StableHlo.nullary main_c (constantI S_ 32 0#32),
    StableHlo.unary main_c main_v24 (broadcastInDim S8192 ![] bcast_S_S8192 : (⟨S_, .i32⟩ : BufTy).Contents (Elt F) → (⟨S8192, .i32⟩ : BufTy).Contents (Elt F)),
    StableHlo.binary main_v15 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 4096#32),
    StableHlo.unary main_c_5 main_v26 (broadcastInDim S8192 ![] bcast_S_S8192 : (⟨S_, .i32⟩ : BufTy).Contents (Elt F) → (⟨S8192, .i32⟩ : BufTy).Contents (Elt F)),
    StableHlo.binary main_v15 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v15 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v28 main_v29 (broadcastInDim S8192x1 ![0] bcast_S8192_S8192x1_0 : (⟨S8192, .i32⟩ : BufTy).Contents (Elt F) → (⟨S8192x1, .i32⟩ : BufTy).Contents (Elt F)),
    StableHlo.nullary main_cst_6 (constant S_ .f32 0x3F800000#32),
    StableHlo.unary main_cst_6 main_v30 (broadcastInDim S8192 ![] bcast_S_S8192 : (⟨S_, .f32⟩ : BufTy).Contents (Elt F) → (⟨S8192, .f32⟩ : BufTy).Contents (Elt F)),
    StableHlo.ternary main_v23 main_v29 main_v30 main_v31 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F))]

def r7 : List (HloOp τ sig (Elt F)) :=
  [StableHlo.nullary main_cst_7 (constant S_ .f32 0x46000000#32),
    StableHlo.unary main_cst_7 main_v32 (broadcastInDim S4096 ![] bcast_S_S4096 : (⟨S_, .f32⟩ : BufTy).Contents (Elt F) → (⟨S4096, .f32⟩ : BufTy).Contents (Elt F)),
    StableHlo.binary main_v31 main_v32 main_v33 (Host.divf : (⟨S4096, .f32⟩ : BufTy).Contents (Elt F) → (⟨S4096, .f32⟩ : BufTy).Contents (Elt F) → (⟨S4096, .f32⟩ : BufTy).Contents (Elt F)),
    StableHlo.nullary main_cst_8 (constant S_ .f32 0x2EDBE6FF#32),
    StableHlo.unary main_cst_8 main_v34 (broadcastInDim S4096 ![] bcast_S_S4096 : (⟨S_, .f32⟩ : BufTy).Contents (Elt F) → (⟨S4096, .f32⟩ : BufTy).Contents (Elt F)),
    StableHlo.binary main_v33 main_v34 main_v35 (addf : (⟨S4096, .f32⟩ : BufTy).Contents (Elt F) → (⟨S4096, .f32⟩ : BufTy).Contents (Elt F) → (⟨S4096, .f32⟩ : BufTy).Contents (Elt F)),
    StableHlo.unary main_v35 main_v36 (Host.log : (⟨S4096, .f32⟩ : BufTy).Contents (Elt F) → (⟨S4096, .f32⟩ : BufTy).Contents (Elt F)),
    StableHlo.binary main_v33 main_v36 main_v37 (mulf : (⟨S4096, .f32⟩ : BufTy).Contents (Elt F) → (⟨S4096, .f32⟩ : BufTy).Contents (Elt F) → (⟨S4096, .f32⟩ : BufTy).Contents (Elt F)),
    StableHlo.nullary main_cst_9 (constant S_ .f32 0x00000000#32),
    StableHlo.binary main_v37 main_cst_9 main_v38 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v38 main_v39 (Host.negf : (⟨S_, .f32⟩ : BufTy).Contents (Elt F) → (⟨S_, .f32⟩ : BufTy).Contents (Elt F)),
    StableHlo.unary main_v39 main_v40 (Host.exp : (⟨S_, .f32⟩ : BufTy).Contents (Elt F) → (⟨S_, .f32⟩ : BufTy).Contents (Elt F))]

def r8 : List (HloOp τ sig (Elt F)) :=
  [StableHlo.reshape main_v22 main_v41 (rfl : (.f32 : EltTy) = .f32) shapeCasts_S8192x64_S8x1024x64,
    StableHlo.reshape main_v15 main_v42 (rfl : (.i32 : EltTy) = .i32) shapeCasts_S8192_S8x1024,
    StableHlo.nullary main_cst_10 (constant S_ .f32 0x3E800000#32),
    StableHlo.binary main_cst_10 main_v20 main_v43 (mulf : (⟨S_, .f32⟩ : BufTy).Contents (Elt F) → (⟨S_, .f32⟩ : BufTy).Contents (Elt F) → (⟨S_, .f32⟩ : BufTy).Contents (Elt F))]

theorem keep1 (V : Valuation τ sig (Elt F)) {r : Ref sig .tc} (h : r ∉ ([main_v0, main_v1, main_cst, main_v2, main_v3, main_cst_0, main_v4, main_v5, main_v6, main_v7, main_v8, main_v9, main_v10, main_cst_1, main_v11, main_v12, main_v13, main_v14] : List (Ref sig .tc))) :
    after (r1 (F := F)) V (Proc.devRef .tc r) = V (Proc.devRef .tc r) :=
  after_unwritten _ rfl h V

theorem sub1 : (r1 : List (HloOp τ sig (Elt F))).Forall fun op => op.bufs ⊆ tcRefs τ sig := by
  simp only [r1, List.forall_cons, nullary_bufs_sub, unary_bufs_sub, binary_bufs_sub, ternary_bufs_sub, quaternary_bufs_sub, reshape_bufs_sub, List.Forall, and_self]

theorem fresh1 : ∀ op ∈ (r1 (F := F)), op.fresh = ∅ := by
  intro _ h; (repeat (cases h with | head => rfl | tail _ h => ?_)); exact nomatch h

theorem keep2 (V : Valuation τ sig (Elt F)) {r : Ref sig .tc} (h : r ∉ ([main_call0_v0, main_call0_cst, main_call0_c, main_call0_v1_0, main_v15] : List (Ref sig .tc))) :
    after (r2 (F := F)) V (Proc.devRef .tc r) = V (Proc.devRef .tc r) :=
  after_unwritten _ rfl h V

theorem sub2 : (r2 : List (HloOp τ sig (Elt F))).Forall fun op => op.bufs ⊆ tcRefs τ sig := by
  simp only [r2, List.forall_cons, nullary_bufs_sub, unary_bufs_sub, binary_bufs_sub, ternary_bufs_sub, quaternary_bufs_sub, reshape_bufs_sub, List.Forall, and_self]

theorem fresh2 : ∀ op ∈ (r2 (F := F)), op.fresh = ∅ := by
  intro _ h; (repeat (cases h with | head => rfl | tail _ h => ?_)); exact nomatch h

theorem keep3 (V : Valuation τ sig (Elt F)) {r : Ref sig .tc} (h : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16] : List (Ref sig .tc))) :
    after (r3 (F := F)) V (Proc.devRef .tc r) = V (Proc.devRef .tc r) :=
  after_unwritten _ rfl h V

theorem sub3 : (r3 : List (HloOp τ sig (Elt F))).Forall fun op => op.bufs ⊆ tcRefs τ sig := by
  simp only [r3, List.forall_cons, nullary_bufs_sub, unary_bufs_sub, binary_bufs_sub, ternary_bufs_sub, quaternary_bufs_sub, reshape_bufs_sub, List.Forall, and_self]

theorem fresh3 : ∀ op ∈ (r3 (F := F)), op.fresh = ∅ := by
  intro _ h; (repeat (cases h with | head => rfl | tail _ h => ?_)); exact nomatch h

theorem keep4 (V : Valuation τ sig (Elt F)) {r : Ref sig .tc} (h : r ∉ ([main_v17, main_v18, main_cst_2, main_v19, main_cst_3, main_v20] : List (Ref sig .tc))) :
    after (r4 (F := F)) V (Proc.devRef .tc r) = V (Proc.devRef .tc r) :=
  after_unwritten _ rfl h V

theorem sub4 : (r4 : List (HloOp τ sig (Elt F))).Forall fun op => op.bufs ⊆ tcRefs τ sig := by
  simp only [r4, List.forall_cons, nullary_bufs_sub, unary_bufs_sub, binary_bufs_sub, ternary_bufs_sub, quaternary_bufs_sub, reshape_bufs_sub, List.Forall, and_self]

theorem fresh4 : ∀ op ∈ (r4 (F := F)), op.fresh = ∅ := by
  intro _ h; (repeat (cases h with | head => rfl | tail _ h => ?_)); exact nomatch h

theorem keep5 (V : Valuation τ sig (Elt F)) {r : Ref sig .tc} (h : r ∉ ([main_v21, main_v22] : List (Ref sig .tc))) :
    after (r5 (F := F)) V (Proc.devRef .tc r) = V (Proc.devRef .tc r) :=
  after_unwritten _ rfl h V

theorem sub5 : (r5 : List (HloOp τ sig (Elt F))).Forall fun op => op.bufs ⊆ tcRefs τ sig := by
  simp only [r5, List.forall_cons, nullary_bufs_sub, unary_bufs_sub, binary_bufs_sub, ternary_bufs_sub, quaternary_bufs_sub, reshape_bufs_sub, List.Forall, and_self]

theorem fresh5 : ∀ op ∈ (r5 (F := F)), op.fresh = ∅ := by
  intro _ h; (repeat (cases h with | head => rfl | tail _ h => ?_)); exact nomatch h

theorem keep6 (V : Valuation τ sig (Elt F)) {r : Ref sig .tc} (h : r ∉ ([main_cst_4, main_v23, main_c, main_v24, main_v25, main_c_5, main_v26, main_v27, main_v28, main_v29, main_cst_6, main_v30, main_v31] : List (Ref sig .tc))) :
    after (r6 (F := F)) V (Proc.devRef .tc r) = V (Proc.devRef .tc r) :=
  after_unwritten _ rfl h V

theorem sub6 : (r6 : List (HloOp τ sig (Elt F))).Forall fun op => op.bufs ⊆ tcRefs τ sig := by
  simp only [r6, List.forall_cons, nullary_bufs_sub, unary_bufs_sub, binary_bufs_sub, ternary_bufs_sub, quaternary_bufs_sub, reshape_bufs_sub, List.Forall, and_self]

theorem fresh6 : ∀ op ∈ (r6 (F := F)), op.fresh = ∅ := by
  intro _ h; (repeat (cases h with | head => rfl | tail _ h => ?_)); exact nomatch h

theorem keep7 (V : Valuation τ sig (Elt F)) {r : Ref sig .tc} (h : r ∉ ([main_cst_7, main_v32, main_v33, main_cst_8, main_v34, main_v35, main_v36, main_v37, main_cst_9, main_v38, main_v39, main_v40] : List (Ref sig .tc))) :
    after (r7 (F := F)) V (Proc.devRef .tc r) = V (Proc.devRef .tc r) :=
  after_unwritten _ rfl h V

theorem sub7 : (r7 : List (HloOp τ sig (Elt F))).Forall fun op => op.bufs ⊆ tcRefs τ sig := by
  simp only [r7, List.forall_cons, nullary_bufs_sub, unary_bufs_sub, binary_bufs_sub, ternary_bufs_sub, quaternary_bufs_sub, reshape_bufs_sub, List.Forall, and_self]

theorem fresh7 : ∀ op ∈ (r7 (F := F)), op.fresh = ∅ := by
  intro _ h; (repeat (cases h with | head => rfl | tail _ h => ?_)); exact nomatch h

theorem keep8 (V : Valuation τ sig (Elt F)) {r : Ref sig .tc} (h : r ∉ ([main_v41, main_v42, main_cst_10, main_v43] : List (Ref sig .tc))) :
    after (r8 (F := F)) V (Proc.devRef .tc r) = V (Proc.devRef .tc r) :=
  after_unwritten _ rfl h V

theorem sub8 : (r8 : List (HloOp τ sig (Elt F))).Forall fun op => op.bufs ⊆ tcRefs τ sig := by
  simp only [r8, List.forall_cons, nullary_bufs_sub, unary_bufs_sub, binary_bufs_sub, ternary_bufs_sub, quaternary_bufs_sub, reshape_bufs_sub, List.Forall, and_self]

theorem fresh8 : ∀ op ∈ (r8 (F := F)), op.fresh = ∅ := by
  intro _ h; (repeat (cases h with | head => rfl | tail _ h => ?_)); exact nomatch h

set_option maxRecDepth 65536 in
theorem main_eq (c : Dev nD) : main (F := F) c = seq (r1 ++ (r2 ++ (r3 ++ (r4 ++ (r5 ++ (r6 ++ (r7 ++ r8))))))) := by
  unfold main fn_argmin.body fn_take.body fn_where.body
  simp only [r1, r2, r3, r4, r5, r6, r7, r8, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem sub_all : (r1 ++ (r2 ++ (r3 ++ (r4 ++ (r5 ++ (r6 ++ (r7 ++ r8)))))) : List (HloOp τ sig (Elt F))).Forall fun op => op.bufs ⊆ tcRefs τ sig := by
  simp only [List.forall_append]
  exact ⟨sub1, sub2, sub3, sub4, sub5, sub6, sub7, sub8⟩

theorem fresh_all : ∀ op ∈ (r1 ++ (r2 ++ (r3 ++ (r4 ++ (r5 ++ (r6 ++ (r7 ++ r8)))))) : List (HloOp τ sig (Elt F))), op.fresh = ∅ := by
  intro op h
  simp only [List.mem_append] at h
  rcases h with h | h | h | h | h | h | h | h
  · exact fresh1 op h
  · exact fresh2 op h
  · exact fresh3 op h
  · exact fresh4 op h
  · exact fresh5 op h
  · exact fresh6 op h
  · exact fresh7 op h
  · exact fresh8 op h

/-! ## The valuations -/

variable (m : (ℓ : Loc nD τ sig) → Buf (Elt F) ℓ) (ρ : Dev nD → PrngReg)

def U0 (d : Dev nD) : Valuation τ sig (Elt F) := launchContents m d
def U1 (d : Dev nD) : Valuation τ sig (Elt F) := after r1 (U0 m d)
def U2 (d : Dev nD) : Valuation τ sig (Elt F) := after r2 (U1 m d)
def U3 (d : Dev nD) : Valuation τ sig (Elt F) := after r3 (U2 m d)
def U4 (d : Dev nD) : Valuation τ sig (Elt F) := after r4 (U3 m d)
def U5 (d : Dev nD) : Valuation τ sig (Elt F) := after r5 (U4 m d)
def U6 (d : Dev nD) : Valuation τ sig (Elt F) := after r6 (U5 m d)
def U7 (d : Dev nD) : Valuation τ sig (Elt F) := after r7 (U6 m d)
def U8 (d : Dev nD) : Valuation τ sig (Elt F) := after r8 (U7 m d)

theorem U8_eq (d : Dev nD) : after (r1 ++ (r2 ++ (r3 ++ (r4 ++ (r5 ++ (r6 ++ (r7 ++ r8))))))) (launchContents m d) = U8 m d := by
  simp only [after_append]; rfl

/-- The reference runs; every buffer ends at what its operations leave there. -/
theorem run_main :
    θ_run defs (onTc (τ := τ) (main (F := F))) ⟨m, fun _ => 0, ρ⟩ fun r =>
      (∀ (c : Dev nD) (b : Ref sig .tc), r.2.mem ((c.tc : Thread nD τ).loc b) = U8 m c (Proc.devRef .tc b)) ∧ r.2.sem = fun _ => 0 :=
  (θ_run defs _ _).mono (fun r h => ⟨fun c b => (h c b).trans (by rw [U8_eq]), sem_eq_zero_of_no_sems (by decide) r.2⟩)
    (run_seq scopedRefs_eq scopedSems_eq defs main (fun _ => r1 ++ (r2 ++ (r3 ++ (r4 ++ (r5 ++ (r6 ++ (r7 ++ r8))))))) main_eq
      (fun _ => sub_all) m ρ (fun _ => fresh_all))

theorem U8_arg0 (d : Dev nD) : U8 m d (Proc.devRef .tc main_arg0) = m ((d.tc : Thread nD τ).loc main_arg0) := by
  unfold U8; rw [keep8 _ (by decide)]; unfold U7; rw [keep7 _ (by decide)]; unfold U6; rw [keep6 _ (by decide)]
  unfold U5; rw [keep5 _ (by decide)]; unfold U4; rw [keep4 _ (by decide)]; unfold U3; rw [keep3 _ (by decide)]
  unfold U2; rw [keep2 _ (by decide)]; unfold U1; rw [keep1 _ (by decide)]; rfl

theorem U8_arg1 (d : Dev nD) : U8 m d (Proc.devRef .tc main_arg1) = m ((d.tc : Thread nD τ).loc main_arg1) := by
  unfold U8; rw [keep8 _ (by decide)]; unfold U7; rw [keep7 _ (by decide)]; unfold U6; rw [keep6 _ (by decide)]
  unfold U5; rw [keep5 _ (by decide)]; unfold U4; rw [keep4 _ (by decide)]; unfold U3; rw [keep3 _ (by decide)]
  unfold U2; rw [keep2 _ (by decide)]; unfold U1; rw [keep1 _ (by decide)]; rfl

/-- The frame of the reference. -/
theorem frame_run :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h.1 c _).trans (U8_arg0 m c), (h.1 c _).trans (U8_arg1 m c)⟩, h.2⟩) (run_main m ρ)

end Cert.Proof.R

end
-- ==== Proof.Pre.lean ====
/-
  What the precondition says: no entry of either argument is an infinity.
-/
module

public import proofs.«01_k».proof.Pre_finite_arguments
public import Idealize.ShloMosaic.Lib.ReduceAll
public import Idealize.ShloMosaic.Lib.StableHlo.Predicate
public import Idealize.ShloMosaic.Lib.Routing.Ops
public import Idealize.ShloMosaic.PureOps.Ideal.Laws

@[expose] public section

noncomputable section

namespace Cert.Proof.Finite

open Idealize.ShloMosaic Cert.Pre_finite_arguments

/-- The shape relations the predicate's operations take. -/
theorem facts : Cert.Pre_finite_arguments.Facts where
  bcast_S_S8x1024x64 := by decide
  reducesTo_S8x1024x64_S_d0_1_2 := by decide
  h_S_ := by decide
  bcast_S_S4096x64 := by decide
  reducesTo_S4096x64_S_d0_1 := by decide

theorem infinity : Ideal.ofBits .f32 0x7F800000#32 = ⊤ := by simp [Ideal.ofBits, Ideal.ieee]

/-- An absolute value below infinity is of no infinity. -/
theorem of_abs_lt {x : EReal} (h : Ideal.cmp .olt (max x (-x)) ⊤ = 1#1) : x ≠ ⊤ ∧ x ≠ ⊥ := by
  have h' : max x (-x) < ⊤ := of_decide_eq_true ((StableHlo.Predicate.ofBool_eq_one_iff _).1 h)
  refine ⟨fun e => ?_, fun e => ?_⟩
  · rw [e] at h'; exact absurd h' (not_lt.2 (le_max_left _ _))
  · rw [e, EReal.neg_bot] at h'; exact absurd h' (not_lt.2 (le_max_right _ _))

theorem and_one {a b : BitVec 1} (h : IntOp.andi a b = 1#1) : a = 1#1 ∧ b = 1#1 := by
  revert h; revert a b; decide

variable [hf : Cert.Pre_finite_arguments.Facts]

theorem decode (Z : FVec Ideal S8x1024x64 .f32) (E : FVec Ideal S4096x64 .f32) (h : Cert.Pre_finite_arguments.fn (F := Ideal) Z E = fun _ => 1#1) :
    (∀ i, (Z i : EReal) ≠ ⊤ ∧ (Z i : EReal) ≠ ⊥) ∧ ∀ i, (E i : EReal) ≠ ⊤ ∧ (E i : EReal) ≠ ⊥ := by
  haveI : Subsingleton S_.Idx := ⟨fun a b => funext fun k => k.elim0⟩
  have h0 := congrFun h (fun k => k.elim0)
  unfold Cert.Pre_finite_arguments.fn at h0
  obtain ⟨hz, he⟩ := and_one h0
  refine ⟨fun i => of_abs_lt ?_, fun i => of_abs_lt ?_⟩
  · refine Eq.trans ?_ (Host.reduce_andi_all _ _ _ _ _ hz i)
    exact congrArg (Ideal.cmp .olt (max (Z i : EReal) (-(Z i)))) ((Routing.bc0 _ _ _).trans infinity).symm
  · refine Eq.trans ?_ (Host.reduce_andi_all _ _ _ _ _ he i)
    exact congrArg (Ideal.cmp .olt (max (E i : EReal) (-(E i)))) ((Routing.bc0 _ _ _).trans infinity).symm

end Cert.Proof.Finite

end
-- ==== Proof.RefRead.lean ====
/-
  What the reference's @main leaves in each buffer that matters, read off its operations.
-/
module

public import proofs.«01_k».proof.Proof.Ref

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- The two arguments, and the rows of the first. -/
abbrev argZ (m : (ℓ : Loc nD τ sig) → Buf (Elt F) ℓ) (d : Dev nD) : FVec F S8x1024x64 .f32 := m ((d.tc : Thread nD τ).loc main_arg0)
abbrev argE (m : (ℓ : Loc nD τ sig) → Buf (Elt F) ℓ) (d : Dev nD) : FVec F S4096x64 .f32 := m ((d.tc : Thread nD τ).loc main_arg1)
def zRows (m : (ℓ : Loc nD τ sig) → Buf (Elt F) ℓ) (d : Dev nD) : FVec F S8192x64 .f32 := shapeCast S8192x64 (argZ m d) shapeCasts_S8x1024x64_S8192x64

/-! ## The reference's steps as functions -/

/-- Squared distances of every row from every row of the table. -/
def dists (Z : FVec F S8192x64 .f32) (E : FVec F S4096x64 .f32) : FVec F S8192x4096 .f32 :=
  addf (subf (broadcastInDim S8192x4096 ![0, 1] bcast_S8192x1_S8192x4096_0_1 (broadcastInDim S8192x1 ![0] bcast_S8192_S8192x1_0
        (Host.reduceAdd (mulf Z Z) (constant S_ .f32 0x00000000#32) reducesTo_S8192x64_S8192_d1 h_S_)))
      (Host.dotGeneral dot_S8192x64_S64x4096_S8192x4096_1_0_0_1_n_n none
        (mulf (broadcastInDim S8192x64 ![] bcast_S_S8192x64 (constant S_ .f32 0x40000000#32)) Z) (transpose S64x4096 [1, 0] E transposes_S4096x64_S64x4096_1_0)))
    (broadcastInDim S8192x4096 ![0, 1] bcast_S1x4096_S8192x4096_0_1 (broadcastInDim S1x4096 ![1] bcast_S4096_S1x4096_1
      (Host.reduceAdd (mulf E E) (constant S_ .f32 0x00000000#32) reducesTo_S4096x64_S4096_d1 h_S_)))

/-- The place of each row's least entry. -/
def places (D : FVec F S8192x4096 .f32) : IVec S8192 32 := fun j =>
  (Host.argReduce reducer_argmin_f32_i32 D (iotaInDim S8192x4096 32 1) (constant S_ .f32 0x7F800000#32) (constantI S_ 32 0#32)
    reducesTo_S8192x4096_S8192_d1 h_S_ j).2

/-- The same, of all rows at once. -/
theorem places_def (D : FVec F S8192x4096 .f32) : places D = fun j =>
    (Host.argReduce reducer_argmin_f32_i32 D (iotaInDim S8192x4096 32 1) (constant S_ .f32 0x7F800000#32) (constantI S_ 32 0#32)
      reducesTo_S8192x4096_S8192_d1 h_S_ j).2 := rfl

/-- An index, counted from the table's end where it is negative, as a column. -/
def wrapped (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 4096#32))) v)

/-- Whether an index falls in the table. -/
def inTable (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1 (broadcastInDim S1x1 ![1] bcast_S1_S1x1_1 (constantI S1 32 4095#32)))))
    (constantI S_ 1 1#1) reducesTo_S8192x1_S8192_d1 h_S_

/-- The rows of the table at the indices. -/
def taken (E : FVec F S4096x64 .f32) (w : IVec S8192x1 32) : FVec F S8192x64 .f32 :=
  select (broadcastInDim S8192x64 ![0] bcast_S8192_S8192x64_0 (inTable w)) (Host.gather gather_S4096x64_S8192x1_S8192x64_1_0_n_n_0_1_164 E w)
    (broadcastInDim S8192x64 ![] bcast_S_S8192x64 (constant S_ .f32 0x7FC00000#32))

/-- The mean of the squared differences. -/
def meanSq (Z Q : FVec F S8192x64 .f32) : FVec F S_ .f32 :=
  Host.divf (Host.reduceAdd (mulf (subf Z Q) (subf Z Q)) (constant S_ .f32 0x00000000#32) reducesTo_S8192x64_S_d0_1 h_S_) (constant S_ .f32 0x49000000#32)

/-- How often each row of the table is chosen. -/
def hist (w : IVec S8192x1 32) : FVec F S4096 .f32 :=
  Host.scatterAdd scatter_S4096_S8192x1_S8192_n_0_0_1 (broadcastInDim S4096 ![] bcast_S_S4096 (constant S_ .f32 0x00000000#32)) w
    (broadcastInDim S8192 ![] bcast_S_S8192 (constant S_ .f32 0x3F800000#32))

/-- The shares of the choices. -/
def probs (h : FVec F S4096 .f32) : FVec F S4096 .f32 := Host.divf h (broadcastInDim S4096 ![] bcast_S_S4096 (constant S_ .f32 0x46000000#32))

/-- The perplexity of the shares. -/
def perp (p : FVec F S4096 .f32) : FVec F S_ .f32 :=
  Host.exp (Host.negf (Host.reduceAdd (mulf p (Host.log (addf p (broadcastInDim S4096 ![] bcast_S_S4096 (constant S_ .f32 0x2EDBE6FF#32)))))
    (constant S_ .f32 0x00000000#32) reducesTo_S4096_S_d0 h_S_))

/-! ## The buffers -/

variable (m : (ℓ : Loc nD τ sig) → Buf (Elt F) ℓ) (d : Dev nD)

theorem U1_arg1 : U1 m d (Proc.devRef .tc main_arg1) = argE m d := by unfold U1; rw [keep1 _ (by decide)]; rfl
theorem U1_v0 : U1 m d (Proc.devRef .tc main_v0) = zRows m d := by unfold U1 r1; after_results_simp; rfl
theorem U1_v14 : U1 m d (Proc.devRef .tc main_v14) = dists (zRows m d) (argE m d) := by unfold U1 r1; after_results_simp; rfl

theorem U2_v0 : U2 m d (Proc.devRef .tc main_v0) = zRows m d := by unfold U2; rw [keep2 _ (by decide), U1_v0]
theorem U2_arg1 : U2 m d (Proc.devRef .tc main_arg1) = argE m d := by unfold U2; rw [keep2 _ (by decide), U1_arg1]

/-- The reference's indices. -/
def idxs : IVec S8192 32 := places (dists (zRows m d) (argE m d))

theorem U2_v15 : U2 m d (Proc.devRef .tc main_v15) = idxs m d := by
  unfold U2 r2; after_results_simp; rw [U1_v14]; unfold idxs; generalize dists (zRows m d) (argE m d) = v; rfl

theorem U3_v0 : U3 m d (Proc.devRef .tc main_v0) = zRows m d := by unfold U3; rw [keep3 _ (by decide), U2_v0]
theorem U3_v15 : U3 m d (Proc.devRef .tc main_v15) = idxs m d := by unfold U3; rw [keep3 _ (by decide), U2_v15]
theorem U3_v16 : U3 m d (Proc.devRef .tc main_v16) = taken (argE m d) (wrapped (idxs m d)) := by
  unfold U3 r3; after_results_simp; rw [U2_v15, U2_arg1]; generalize idxs m d = v; rfl

theorem U4_v0 : U4 m d (Proc.devRef .tc main_v0) = zRows m d := by unfold U4; rw [keep4 _ (by decide), U3_v0]
theorem U4_v15 : U4 m d (Proc.devRef .tc main_v15) = idxs m d := by unfold U4; rw [keep4 _ (by decide), U3_v15]
theorem U4_v16 : U4 m d (Proc.devRef .tc main_v16) = taken (argE m d) (wrapped (idxs m d)) := by unfold U4; rw [keep4 _ (by decide), U3_v16]
theorem U4_v20 : U4 m d (Proc.devRef .tc main_v20) = meanSq (zRows m d) (taken (argE m d) (wrapped (idxs m d))) := by
  unfold U4 r4; after_results_simp; rw [U3_v16, U3_v0]; generalize taken (argE m d) _ = v; generalize zRows m d = z; rfl

theorem U5_v15 : U5 m d (Proc.devRef .tc main_v15) = idxs m d := by unfold U5; rw [keep5 _ (by decide), U4_v15]
theorem U5_v20 : U5 m d (Proc.devRef .tc main_v20) = meanSq (zRows m d) (taken (argE m d) (wrapped (idxs m d))) := by
  unfold U5; rw [keep5 _ (by decide), U4_v20]
theorem U5_v22 : U5 m d (Proc.devRef .tc main_v22) = addf (zRows m d) (subf (taken (argE m d) (wrapped (idxs m d))) (zRows m d)) := by
  unfold U5 r5; after_results_simp; rw [U4_v16, U4_v0]

theorem U6_v31 : U6 m d (Proc.devRef .tc main_v31) = (hist (wrapped (idxs m d)) : FVec F S4096 .f32) := by
  unfold U6 r6; after_results_simp; rw [U5_v15]; generalize idxs m d = v; rfl

theorem U7_v15 : U7 m d (Proc.devRef .tc main_v15) = idxs m d := by
  unfold U7; rw [keep7 _ (by decide)]; unfold U6; rw [keep6 _ (by decide), U5_v15]
theorem U7_v20 : U7 m d (Proc.devRef .tc main_v20) = meanSq (zRows m d) (taken (argE m d) (wrapped (idxs m d))) := by
  unfold U7; rw [keep7 _ (by decide)]; unfold U6; rw [keep6 _ (by decide), U5_v20]
theorem U7_v22 : U7 m d (Proc.devRef .tc main_v22) = addf (zRows m d) (subf (taken (argE m d) (wrapped (idxs m d))) (zRows m d)) := by
  unfold U7; rw [keep7 _ (by decide)]; unfold U6; rw [keep6 _ (by decide), U5_v22]
theorem U7_v40 : U7 m d (Proc.devRef .tc main_v40) = (perp (probs (hist (wrapped (idxs m d)))) : FVec F S_ .f32) := by
  unfold U7 r7; after_results_simp; rw [U6_v31]; generalize hist (F := F) (wrapped (idxs m d)) = v; rfl

theorem U8_v40 : U8 m d (Proc.devRef .tc main_v40) = (perp (probs (hist (wrapped (idxs m d)))) : FVec F S_ .f32) := by
  unfold U8; rw [keep8 _ (by decide), U7_v40]
theorem U8_v41 : U8 m d (Proc.devRef .tc main_v41) =
    shapeCast S8x1024x64 (addf (zRows m d) (subf (taken (argE m d) (wrapped (idxs m d))) (zRows m d))) shapeCasts_S8192x64_S8x1024x64 := by
  unfold U8 r8; after_results_simp; rw [U7_v22]; generalize addf (zRows m d) _ = v; rfl
theorem r8_v42 (V : Valuation τ sig (Elt F)) : after (r8 (F := F)) V (Proc.devRef .tc main_v42) =
    shapeCast S8x1024 (V (Proc.devRef .tc main_v15) : IVec S8192 32) shapeCasts_S8192_S8x1024 := by
  unfold r8; after_results_simp; rfl
theorem U8_v42 : U8 m d (Proc.devRef .tc main_v42) = shapeCast S8x1024 (idxs m d) shapeCasts_S8192_S8x1024 :=
  (r8_v42 (U7 m d)).trans (congrArg (fun v : IVec S8192 32 => shapeCast S8x1024 v shapeCasts_S8192_S8x1024) (U7_v15 m d))
theorem U8_v43 : U8 m d (Proc.devRef .tc main_v43) =
    mulf (constant S_ .f32 0x3E800000#32) (meanSq (zRows m d) (taken (argE m d) (wrapped (idxs m d)))) := by
  unfold U8 r8; after_results_simp; rw [U7_v20]

end Cert.Proof.R

end
-- ==== Proof.Dist.lean ====
/-
  The table of distances, entry by entry: the kernel's blocks and the reference's whole table hold the same sums.
-/
module

public import proofs.«01_k».proof.Proof.Search
public import proofs.«01_k».proof.Proof.RefRead
public import Idealize.ShloMosaic.Lib.MatmulPlain
public import Idealize.ShloMosaic.Lib.StackMember
public import Idealize.ShloMosaic.Lib.Routing.Ops

@[expose] public section

noncomputable section

namespace Cert.Proof

open Idealize.ShloMosaic Idealize.ShloMosaic.TcCoe

/-- The rows `[8192, 64]` and the table `[4096, 64]`, of extended reals. -/
abbrev RowsT := (⟨2, ![8192, 64]⟩ : Shape).Idx → EReal
abbrev TableT := (⟨2, ![4096, 64]⟩ : Shape).Idx → EReal

/-- The kernels' literal 2.0. -/
def two : EReal := Ideal.ofBits .f32 0x40000000#32

/-- What both programs take as the distance of row `n` from row `j` of the table. -/
def dist2 (Z : RowsT) (E : TableT) (n : Fin 8192) (j : Fin 4096) : EReal :=
  ((∑ k : Fin 64, Z (ix2 n k) * Z (ix2 n k)) - ∑ k : Fin 64, two * Z (ix2 n k) * E (ix2 j k)) + ∑ k : Fin 64, E (ix2 j k) * E (ix2 j k)

/-- The nearest row of the table, the first where several are. -/
def near (Z : RowsT) (E : TableT) (n : Fin 8192) : Fin 4096 := argm (dist2 Z E n)

/-! ## The reference's -/

section Reference
open Cert.ReferenceIdeal Cert.ReferenceIdeal.Gen

theorem reduces_rows64 : S8192x64.Reduces [1] S8192 := by decide
theorem reduces_table : S4096x64.Reduces [1] S4096 := by decide

theorem sumsq_rows (Z : FVec Ideal S8192x64 .f32) (n : Fin 8192) :
    (Host.reduceAdd (mulf Z Z) (constant S_ .f32 0x00000000#32) reducesTo_S8192x64_S8192_d1 h_S_ (ix1 n) : EReal)
      = ∑ k : Fin 64, (Z (ix2 n k) * Z (ix2 n k) : EReal) := by
  refine (Ideal.hostReduceAdd_single reducesTo_S8192x64_S8192_d1 reduces_rows64 (mulf Z Z) (Ideal.ofBits .f32 0x00000000#32) (ix1 n)).trans ?_
  rw [Ideal.ofBits_zero_f32, zero_add]
  exact Finset.sum_congr rfl fun k _ => congrArg (mulf Z Z) (lift_row reduces_rows64 n k)

theorem sumsq_table (E : FVec Ideal S4096x64 .f32) (j : Fin 4096) :
    (Host.reduceAdd (mulf E E) (constant S_ .f32 0x00000000#32) reducesTo_S4096x64_S4096_d1 h_S_ (ix1 j) : EReal)
      = ∑ k : Fin 64, (E (ix2 j k) * E (ix2 j k) : EReal) := by
  refine (Ideal.hostReduceAdd_single reducesTo_S4096x64_S4096_d1 reduces_table (mulf E E) (Ideal.ofBits .f32 0x00000000#32) (ix1 j)).trans ?_
  rw [Ideal.ofBits_zero_f32, zero_add]
  exact Finset.sum_congr rfl fun k _ => congrArg (mulf E E) (lift_row reduces_table j k)

theorem transpose_table (E : FVec Ideal S4096x64 .f32) (k : Fin 64) (j : Fin 4096) :
    transpose S64x4096 [1, 0] E transposes_S4096x64_S64x4096_1_0 (ix2 k j) = E (ix2 j k) :=
  transpose_apply _ E _ _ _ fun b => by
    match b with
    | ⟨0, _⟩ => rfl
    | ⟨1, _⟩ => rfl

theorem dists_apply (Z : FVec Ideal S8192x64 .f32) (E : FVec Ideal S4096x64 .f32) (n : Fin 8192) (j : Fin 4096) :
    (R.dists Z E (ix2 n j) : EReal) = dist2 Z E n j := by
  unfold R.dists dist2
  refine congr (congrArg HAdd.hAdd (congr (congrArg HSub.hSub ?_) ?_)) ?_
  · exact (Routing.bcRows _ _ _ n j).trans (sumsq_rows Z n)
  · refine (StackMember.dotGeneral_plain_apply none _ _ n j).trans ?_
    refine Finset.sum_congr rfl fun k _ => congr (congrArg HMul.hMul ?_) (transpose_table E k j)
    exact congrArg (· * (Z (ix2 n k) : EReal)) (Routing.bc0 _ _ _)
  · exact (Routing.bcCols _ _ _ n j).trans (sumsq_table E j)

theorem places_apply (D : FVec Ideal S8192x4096 .f32) (n : Fin 8192) :
    R.places D (ix1 n) = wd (argm fun k => (D (ix2 n k) : EReal)) :=
  (congrFun (R.places_def D) (ix1 n)).trans (ref_argmin D n)

theorem idxs_apply (m : (ℓ : Loc nD τ sig) → Buf (Elt Ideal) ℓ) (d : Dev nD) (n : Fin 8192) :
    R.idxs m d (ix1 n) = wd (near (R.zRows m d) (R.argE m d) n) := by
  unfold R.idxs near
  refine (places_apply _ n).trans ?_
  exact congrArg (fun f => wd (argm f)) (funext fun k => dists_apply _ _ n k)

end Reference

end Cert.Proof

end
-- ==== Proof.DistK.lean ====
/-
  The kernel's blocks of distances, entry by entry, and the row of the table it chooses.
-/
module

public import proofs.«01_k».proof.Proof.Dist
public import proofs.«01_k».proof.Proof.Frame

@[expose] public section

noncomputable section

namespace Cert.Proof

open Idealize.ShloMosaic Idealize.ShloMosaic.TcCoe

open Cert.KernelIdeal Cert.KernelIdeal.Gen

theorem pay7_apply (z : FVec Ideal S256x64 .f32) (e : FVec Ideal S64x4096 .f32) (q : FVec Ideal S256x1 .f32) (l : FVec Ideal S1x4096 .f32)
    (r : Fin 256) (j : Fin 4096) :
    (k0_pay7 (F := Ideal) z e q l (ix2 r j) : EReal) = (q (ix2 r 0) - ∑ k : Fin 64, two * z (ix2 r k) * e (ix2 k j)) + l (ix2 0 j) := by
  unfold k0_pay7
  simp only [shapeCast_self]
  refine congr (congrArg HAdd.hAdd (congr (congrArg HSub.hSub ?_) ?_)) ?_
  · exact broadcastTo_apply _ _ _ (ix2 r 0) fun a => by
      match a with
      | ⟨0, _⟩ => rfl
      | ⟨1, _⟩ => rfl
  · refine (Ideal.matmul_plain_apply none _ _ _ r j).trans ?_
    refine (congrArg (· + _) Ideal.ofBits_zero_f32).trans ((zero_add _).trans ?_)
    rfl
  · exact broadcastTo_apply _ _ _ (ix2 0 j) fun a => by
      match a with
      | ⟨0, _⟩ => rfl
      | ⟨1, _⟩ => rfl

variable (m : (ℓ : Loc nD τ sig) → Buf (Elt Ideal) ℓ) (d : Dev nD)

theorem dist_apply (t : Fin cfg0.N) (r : Fin 256) (j : Fin 4096) :
    (dist (entry (W1 m)) d t (ix2 r j) : EReal) = dist2 (zRows m d) (argE m d) (row t r) j := by
  unfold dist dist2
  refine (pay7_apply _ _ _ _ r j).trans ?_
  refine congr (congrArg HAdd.hAdd (congr (congrArg HSub.hSub ?_) ?_)) ?_
  · refine (qB_apply (entry (W1 m)) d t r).trans ?_
    refine (congrFun (W1_v6 m d) _).trans ?_
    exact (Routing.bcCol _ _ (row t r)).trans (sumsq_rows (zRows m d) (row t r))
  · refine Finset.sum_congr rfl fun k _ => congr (congrArg HMul.hMul (congrArg (two * ·) ?_)) ?_
    · exact (zB_apply (entry (W1 m)) d t r k).trans (congrFun (W1_v0 m d) _)
    · exact (eB_apply (entry (W1 m)) d t (ix2 k j)).trans ((congrFun (W1_v7 m d) _).trans (transpose_table (argE m d) k j))
  · refine (lB_apply (entry (W1 m)) d t (ix2 0 j)).trans ?_
    refine (congrFun (W1_v3 m d) _).trans ?_
    refine (broadcastInDim_apply _ _ _ _ (ix1 j) fun a => ?_).trans (sumsq_table (argE m d) j)
    match a with
    | ⟨0, _⟩ => rfl

/-- The kernel's chosen row. -/
theorem best_eq (n : Fin 8192) : best m d n = near (zRows m d) (argE m d) n := by
  unfold best near
  refine congrArg argm (funext fun k => ?_)
  rw [dist_apply, row_pt_pl]

theorem idxVec_near (n : Fin 8192) : idxVec m d (ix1 n) = wd (near (zRows m d) (argE m d) n) :=
  (idxVec_best m d n).trans (by rw [best_eq])

end Cert.Proof

end
-- ==== Proof.Rows.lean ====
/-
  The rows taken from the table, entry by entry, in both programs; with them the first two results agree.
-/
module

public import proofs.«01_k».proof.Proof.DistK
public import Idealize.ShloMosaic.Lib.ReduceAll
public import Idealize.ShloMosaic.Lib.KernelVsHost

@[expose] public section

noncomputable section

namespace Cert.Proof

open Idealize.ShloMosaic Idealize.ShloMosaic.TcCoe

/-! ## The reference's -/

section Reference
open Cert.ReferenceIdeal Cert.ReferenceIdeal.Gen

variable (v : IVec S8192 32) (b : Fin 8192 → Fin 4096) (h : ∀ n, v (ix1 n) = wd (b n))
include h

theorem wrapped_apply (n : Fin 8192) : R.wrapped v (ix2 n 0) = wd (b n) := by
  unfold R.wrapped
  refine (Routing.bcCol _ _ n).trans ?_
  show Scalar.select (IntOp.cmpi .slt (v (ix1 n)) _) _ (v (ix1 n)) = _
  rw [h n]
  refine if_neg fun hc => ?_
  have h0 : (wd (b n)).toNat < 2 ^ 31 := by rw [wd_toNat]; have := (b n).isLt; omega
  have hc' : IntOp.cmpi .slt (wd (b n)) (0#32) = 1#1 := hc
  rw [StableHlo.Predicate.slt_iff_toNat h0 (by decide)] at hc'
  exact absurd hc' (Nat.not_lt_zero _)

theorem inTable_apply (n : Fin 8192) : R.inTable (R.wrapped v) (ix1 n) = 1#1 := by
  unfold R.inTable
  refine Host.reduce_andi_one _ _ _ _ _ rfl fun i => ?_
  obtain ⟨p, q, rfl⟩ : ∃ (p : Fin 8192) (q : Fin 1), i = ix2 p q := ⟨i 0, i 1, (ix2_eta i).symm⟩
  obtain rfl : q = 0 := Subsingleton.elim _ _
  show IntOp.andi (IntOp.cmpi .sge (R.wrapped v (ix2 p 0)) (0#32)) (IntOp.cmpi .sle (R.wrapped v (ix2 p 0)) (4095#32)) = 1#1
  rw [wrapped_apply v b h p]
  have h0 : (wd (b p)).toNat < 2 ^ 31 := by rw [wd_toNat]; have := (b p).isLt; omega
  have h1 : IntOp.cmpi .sge (wd (b p)) (0#32) = 1#1 := (StableHlo.Predicate.sge_iff_toNat h0 (by decide)).2 (Nat.zero_le _)
  have h2 : IntOp.cmpi .sle (wd (b p)) (4095#32) = 1#1 := by
    refine (StableHlo.Predicate.sle_iff_toNat h0 (by decide)).2 ?_
    rw [wd_toNat]; have := (b p).isLt
    show (b p).val ≤ 4095
    omega
  rw [h1, h2]; rfl

omit h in
theorem take_select (c : IVec S8192 1) (G X : FVec Ideal S8192x64 .f32) (n : Fin 8192) (k : Fin 64) (hc : c (ix1 n) = 1#1) :
    (select (broadcastInDim S8192x64 ![0] bcast_S8192_S8192x64_0 c) G X (ix2 n k) : EReal) = G (ix2 n k) := by
  have hm : broadcastInDim S8192x64 ![0] bcast_S8192_S8192x64_0 c (ix2 n k) = 1#1 := by
    refine (broadcastInDim_apply _ _ _ _ (ix1 n) fun a => ?_).trans hc
    match a with
    | ⟨0, _⟩ => rfl
  show Scalar.select (broadcastInDim S8192x64 ![0] bcast_S8192_S8192x64_0 c (ix2 n k)) (G (ix2 n k)) (X (ix2 n k)) = _
  rw [hm]
  exact if_pos rfl

theorem taken_apply (E : FVec Ideal S4096x64 .f32) (n : Fin 8192) (k : Fin 64) :
    (R.taken E (R.wrapped v) (ix2 n k) : EReal) = E (ix2 (b n) k) := by
  unfold R.taken
  refine (take_select _ _ _ n k (inTable_apply v b h n)).trans ?_
  have hw := wrapped_apply v b h n
  generalize R.wrapped v = w at hw ⊢
  exact Routing.gather_row _ rfl rfl rfl rfl rfl E w n k (b n) hw (by norm_num)

end Reference

/-! ## The kernel's -/

section Kernel
open Cert.KernelIdeal Cert.KernelIdeal.Gen

theorem gath_slice (A : FVec Ideal S4096x128 .f32) (B : IVec S1x8192 32) (n : Fin 8192) (k : Fin 64) :
    (extractStridedSlice S8192x64 ![0, 0] (gath A B) slices_S8192x128_S8192x64_0_0 (ix2 n k) : EReal)
      = A (ix2 (Fin.ofNat 4096 (B (ix2 0 n)).toNat) (⟨k.val, by have := k.isLt; omega⟩ : Fin 128)) :=
  extractStridedSlice_apply ![0, 0] (gath A B) slices_S8192x128_S8192x64_0_0 (ix2 n k) (ix2 n (⟨k.val, by have := k.isLt; omega⟩ : Fin 128))
    fun a => by
      match a with
      | ⟨0, _⟩ => exact (Nat.zero_add _).symm
      | ⟨1, _⟩ => exact (Nat.zero_add _).symm

variable (m : (ℓ : Loc nD τ sig) → Buf (Elt Ideal) ℓ) (d : Dev nD)

theorem tabOf_apply (j : Fin 4096) (k : Fin 64) :
    (tabOf m d (ix2 j (⟨k.val, by have := k.isLt; omega⟩ : Fin 128)) : EReal) = argE m d (ix2 j k) := by
  rw [tabOf_eq]
  exact pad_apply_of_inside ![0, 0] ![0, 64] ![0, 0] (argE m d) _ pads_S4096x64_S4096x128_000_0640 h_S_
    (ix2 j (⟨k.val, by have := k.isLt; omega⟩ : Fin 128)) (ix2 j k) fun a => by
    match a with
    | ⟨0, _⟩ => show j.val = 0 + j.val * (0 + 1); omega
    | ⟨1, _⟩ => show k.val = 0 + k.val * (0 + 1); omega

/-- The kernel's rows. -/
def rowsOf : FVec Ideal S8192x64 .f32 := extractStridedSlice S8192x64 ![0, 0] (gath (tabOf m d) (idxOf m d)) slices_S8192x128_S8192x64_0_0

theorem rowsOf_apply (n : Fin 8192) (k : Fin 64) :
    (rowsOf m d (ix2 n k) : EReal) = argE m d (ix2 (near (zRows m d) (argE m d) n) k) := by
  unfold rowsOf
  refine (gath_slice _ _ n k).trans ?_
  have hb : Fin.ofNat 4096 (idxOf m d (ix2 0 n)).toNat = near (zRows m d) (argE m d) n := by
    rw [idxOf_best, best_eq, wd_toNat]
    exact Fin.ext (Nat.mod_eq_of_lt (near (zRows m d) (argE m d) n).isLt)
  rw [hb]
  exact tabOf_apply m d _ k

end Kernel

/-! ## Both -/

section Both

variable (m : (ℓ : Loc KernelIdeal.nD KernelIdeal.τ KernelIdeal.sig) → Buf (Elt Ideal) ℓ) (d : Dev KernelIdeal.nD)
  (m' : (ℓ : Loc ReferenceIdeal.nD ReferenceIdeal.τ ReferenceIdeal.sig) → Buf (Elt Ideal) ℓ)
  (hZ : R.argZ m' d = argZ m d) (hE : R.argE m' d = argE m d)
include hZ

theorem zRows_eq : R.zRows m' d = zRows m d := by
  unfold R.zRows zRows
  rw [hZ]

include hE

theorem idxs_near (n : Fin 8192) : R.idxs m' d (ix1 n) = wd (near (zRows m d) (argE m d) n) := by
  rw [idxs_apply, zRows_eq m d m' hZ, hE]

/-- Result 2's vector. -/
theorem idxs_eq : R.idxs m' d = idxVec m d := by
  funext i
  obtain ⟨n, rfl⟩ : ∃ n : Fin 8192, i = ix1 n := ⟨i 0, (ix1_eta i).symm⟩
  rw [idxs_near m d m' hZ hE n, idxVec_near]

/-- Result 1's rows. -/
theorem taken_eq : R.taken (R.argE m' d) (R.wrapped (R.idxs m' d)) = rowsOf m d := by
  funext i
  obtain ⟨n, k, rfl⟩ : ∃ (n : Fin 8192) (k : Fin 64), i = ix2 n k := ⟨i 0, i 1, (ix2_eta i).symm⟩
  refine (taken_apply (R.idxs m' d) (fun n => near (zRows m d) (argE m d) n) (fun n => idxs_near m d m' hZ hE n) (R.argE m' d) n k).trans ?_
  rw [hE]
  exact (rowsOf_apply m d n k).symm

end Both

end Cert.Proof

end
-- ==== Proof.Count.lean ====
/-
  How often each row of the table is chosen, and the perplexity: the fourth result of both programs.
-/
module

public import proofs.«01_k».proof.Proof.Rows

@[expose] public section

noncomputable section

namespace Cert.Proof

open Idealize.ShloMosaic Idealize.ShloMosaic.TcCoe

/-! ## Sums over the blocks -/

section Blocks
open Cert.KernelIdeal Cert.KernelIdeal.Gen

/-- A block and a row in it, and the row among all. -/
def blockEquiv : Fin cfg0.N × Fin 256 ≃ Fin 8192 where
  toFun p := row p.1 p.2
  invFun n := (pt n, pl n)
  left_inv p := by
    obtain ⟨t, r⟩ := p
    have hr := r.isLt
    refine Prod.ext (Fin.ext ?_) (Fin.ext ?_)
    · show (t.val * 256 + r.val) / 256 = t.val
      omega
    · show (t.val * 256 + r.val) % 256 = r.val
      omega
  right_inv n := by
    show row (pt n) (pl n) = n
    exact row_pt_pl n

/-- The rows of all blocks are all the rows. -/
theorem sum_blocks (f : Fin 8192 → EReal) : ∑ t : Fin cfg0.N, ∑ r : Fin 256, f (row t r) = ∑ n : Fin 8192, f n := by
  have h := Equiv.sum_comp blockEquiv f
  rw [Fintype.sum_prod_type] at h
  exact h

/-- A running sum over the blocks, from zero. -/
theorem running (g : ℕ → EReal) (f : Fin cfg0.N → EReal) (h0 : g 0 = 0)
    (hs : ∀ t : Fin cfg0.N, g (t.val + 1) = g t.val + f t) : g 32 = ∑ t, f t := by
  have key : ∀ n (hn : n ≤ cfg0.N), g n = ∑ i ∈ Finset.range n, if h : i < cfg0.N then f ⟨i, h⟩ else 0 := by
    intro n
    induction n with
    | zero => intro _; rw [h0, Finset.range_zero, Finset.sum_empty]
    | succ n ih => intro hn; rw [Finset.sum_range_succ, dif_pos (Nat.lt_of_succ_le hn), ← ih (Nat.le_of_succ_le hn)]; exact hs ⟨n, hn⟩
  have h := key cfg0.N le_rfl
  rw [Finset.sum_range] at h
  rw [← N32, h]
  exact Finset.sum_congr rfl fun t _ => dif_pos t.isLt

end Blocks

/-! ## The counts and what is made of them -/

/-- How often row `j` of the table is the chosen one. -/
def hits (b : Fin 8192 → Fin 4096) (j : Fin 4096) : EReal := ∑ n : Fin 8192, if b n = j then 1 else 0

/-- The programs' literal 1e-10. -/
def tiny : EReal := Ideal.ofBits .f32 0x2EDBE6FF#32

/-- The perplexity of counts. -/
def plex (h : Fin 4096 → EReal) : EReal :=
  Ideal.exp (-∑ j : Fin 4096, h j * ((1 / 8192 : ℝ) : EReal) * Ideal.log (h j * ((1 / 8192 : ℝ) : EReal) + tiny))

theorem ofBits_share : Ideal.ofBits .f32 0x39000000#32 = ((1 / 8192 : ℝ) : EReal) := by
  simp [Ideal.ofBits, Ideal.ieee, -EReal.coe_mul]
  norm_num

theorem ofBits_rows : Ideal.ofBits .f32 0x46000000#32 = ((8192 : ℝ) : EReal) := by
  simp [Ideal.ofBits, Ideal.ieee, -EReal.coe_mul]
  norm_num

theorem ofBits_one : Ideal.ofBits .f32 0x3F800000#32 = 1 := by
  simp [Ideal.ofBits, Ideal.ieee, -EReal.coe_mul]
  try norm_num

theorem wd_inj {a b : Fin 4096} : wd a = wd b ↔ a = b :=
  ⟨fun h => Fin.ext (by rw [← wd_toNat a, ← wd_toNat b, h]), fun h => by rw [h]⟩

/-! ## The kernel's -/

section Kernel
open Cert.KernelIdeal Cert.KernelIdeal.Gen

theorem pay1_apply (idx : IVec S256 32) (v : FVec Ideal S1x4096 .f32) (b : Fin 256 → Fin 4096) (h : ∀ r, idx (ix1 r) = wd (b r)) (j : Fin 4096) :
    (k0_pay1 (F := Ideal) cols idx v (ix2 0 j) : EReal) = v (ix2 0 j) + ∑ r : Fin 256, if b r = j then (1 : EReal) else 0 := by
  unfold k0_pay1
  simp only [shapeCast_self]
  refine congrArg (HAdd.hAdd (v (ix2 0 j) : EReal)) ?_
  refine (shapeCast_apply _ _ _ (ix1 j) ?_).trans ?_
  · rw [Shape.rowMajor_val_two, Shape.rowMajor_val_one]
    show j.val = 0 * 4096 + j.val
    omega
  refine (Ideal.multiReduction_add_single _ _ reduces_S256x4096_S4096 (.inl rfl) rfl (ix1 j)).trans ?_
  refine Finset.sum_congr rfl fun r _ => ?_
  rw [lift_col reduces_S256x4096_S4096 j r]
  show Scalar.select (IntOp.cmpi .eq (cols (ix2 _ j)) (broadcastTo S256x4096 (shapeCast S256x1 idx shapeCasts_S256_S256x1) broadcasts_S256x1_S256x4096 (ix2 _ j)))
    (Ideal.ofBits .f32 0x3F800000#32) (Ideal.ofBits .f32 0x00000000#32) = _
  have hc : cols (ix2 (⟨r.val, r.isLt⟩ : Fin 256) j) = wd j := by
    show BitVec.ofNat 32 (0 * 4096 + j.val) = _
    rw [Nat.zero_mul, Nat.zero_add]
  rw [hc, broadcastTo_apply _ broadcasts_S256x1_S256x4096 _ (ix2 (⟨r.val, r.isLt⟩ : Fin 256) 0) (fun a => by
    match a with
    | ⟨0, _⟩ => rfl
    | ⟨1, _⟩ => rfl)]
  rw [show shapeCast S256x1 idx shapeCasts_S256_S256x1 (ix2 (⟨r.val, r.isLt⟩ : Fin 256) 0) = wd (b r) from
    (ValueIdx.shapeCast_a_a1_apply _ _ _ 0).trans (h _)]
  rw [ofBits_one, Ideal.ofBits_zero_f32]
  exact if_congr (StableHlo.Predicate.cmpi_eq_iff.trans (wd_inj.trans eq_comm)) rfl rfl

variable (m : (ℓ : Loc nD τ sig) → Buf (Elt Ideal) ℓ) (d : Dev nD)

/-- The block's choices. -/
theorem block_best (t : Fin cfg0.N) (r : Fin 256) :
    k0_pay9 (F := Ideal) (dist (entry (W1 m)) d t) (ix1 r) = wd (near (zRows m d) (argE m d) (row t r)) := by
  rw [pay9_apply]
  unfold near
  exact congrArg (fun f => wd (argm f)) (funext fun k => dist_apply m d t r k)

theorem cnt_total (j : Fin 4096) :
    (cntAt (F := Ideal) (entry (W1 m)) d 32 (ix2 0 j) : EReal) = hits (near (zRows m d) (argE m d)) j := by
  unfold hits
  rw [← sum_blocks]
  refine running (fun n => (cntAt (F := Ideal) (entry (W1 m)) d n (ix2 0 j) : EReal)) _ ?_ fun t => ?_
  · show (k0_pay5 (F := Ideal) (ix2 0 j) : EReal) = 0
    unfold k0_pay5
    simp only [shapeCast_self]
    exact Ideal.ofBits_zero_f32
  · show (cntAt (F := Ideal) (entry (W1 m)) d (t.val + 1) (ix2 0 j) : EReal) = _
    rw [cntAt_succ (F := Ideal)]
    exact pay1_apply _ _ (fun r => near (zRows m d) (argE m d) (row t r)) (fun r => block_best m d t r) j

theorem pay4_apply (v : FVec Ideal S1x4096 .f32) (i : S1x1.Idx) :
    (k0_pay4 (F := Ideal) v i : EReal) = plex fun j => v (ix2 0 j) := by
  unfold k0_pay4 plex
  refine congrArg Ideal.exp ?_
  refine (congrArg (· - _) Ideal.ofBits_zero_f32).trans ((zero_sub _).trans (congrArg Neg.neg ?_))
  refine (shapeCast_apply _ _ _ (ix1 0) ?_).trans ?_
  · rw [Shape.rowMajor_val_one, Shape.rowMajor_val_three]
    rfl
  refine (Ideal.multiReduction_add_total _ _ reduces_S1x1x4096_S1 (fun b => by match b with | ⟨0, _⟩ => rfl) (.inl rfl) rfl (ix1 0)).trans ?_
  refine (sum_idx3 _).trans ?_
  rw [Fin.sum_univ_one, Fin.sum_univ_one]
  refine Finset.sum_congr rfl fun j _ => ?_
  refine (shapeCast_apply _ _ _ (ix2 0 j) ?_).trans ?_
  · rw [Shape.rowMajor_val_two, Shape.rowMajor_val_three]
    show 0 * 4096 + j.val = (0 * 1 + 0) * 4096 + j.val
    omega
  show (v (ix2 0 j) * Ideal.ofBits .f32 0x39000000#32) * Ideal.log (v (ix2 0 j) * Ideal.ofBits .f32 0x39000000#32 + tiny) = _
  rw [ofBits_share]

end Kernel

/-! ## The reference's -/

section Reference
open Cert.ReferenceIdeal Cert.ReferenceIdeal.Gen

/-- An update lands at `x` exactly when its index is `x`. -/
theorem lands (idx : IVec S8192x1 32) (i : Fin 8192) (x : Fin 4096) :
    scatter_S4096_S8192x1_S8192_n_0_0_1.resultIdx? (ix1 i) idx = some (ix1 x) ↔ (idx (ix2 i 0)).toInt = (x.val : Int) := by
  have hm : (0 : Fin 1) ∈ scatter_S4096_S8192x1_S8192_n_0_0_1.scatterDimsToOperandDims := List.mem_singleton.2 rfl
  have hwin : scatter_S4096_S8192x1_S8192_n_0_0_1.window (ix1 i) 0 = 0 := by
    unfold ScatterDims.window
    rw [dif_neg fun h => (of_decide_eq_true (List.mem_filter.1 h).2) (List.mem_singleton.2 rfl)]
  have hstart : scatter_S4096_S8192x1_S8192_n_0_0_1.start (ix1 i) idx 0 = (idx (ix2 i 0)).toInt := by
    unfold ScatterDims.start
    rw [dif_pos hm]
    refine congrArg (fun q => (idx q).toInt) (funext fun q => Fin.ext ?_)
    match q with
    | ⟨0, _⟩ => rfl
    | ⟨1, _⟩ => rfl
  have hx := x.isLt
  unfold ScatterDims.resultIdx?
  split
  · next h =>
    have h0 := h 0
    rw [hstart, hwin] at h0
    constructor
    · intro e
      have e0 := congrArg Fin.val (congrFun (Option.some.inj e) 0)
      change (scatter_S4096_S8192x1_S8192_n_0_0_1.start (ix1 i) idx 0 + (scatter_S4096_S8192x1_S8192_n_0_0_1.window (ix1 i) 0 : Int)).toNat = x.val at e0
      rw [hstart, hwin] at e0
      omega
    · intro e
      refine congrArg some (funext fun a => Fin.ext ?_)
      match a with
      | ⟨0, _⟩ =>
        show (scatter_S4096_S8192x1_S8192_n_0_0_1.start (ix1 i) idx 0 + (scatter_S4096_S8192x1_S8192_n_0_0_1.window (ix1 i) 0 : Int)).toNat = x.val
        rw [hstart, hwin, e]
        omega
  · next h =>
    refine ⟨fun e => (nomatch e), fun e => (h fun a => ?_).elim⟩
    match a with
    | ⟨0, _⟩ =>
      show 0 ≤ scatter_S4096_S8192x1_S8192_n_0_0_1.start (ix1 i) idx 0 + (scatter_S4096_S8192x1_S8192_n_0_0_1.window (ix1 i) 0 : Int)
        ∧ scatter_S4096_S8192x1_S8192_n_0_0_1.start (ix1 i) idx 0 + (scatter_S4096_S8192x1_S8192_n_0_0_1.window (ix1 i) 0 : Int) < (4096 : Int)
      rw [hstart, hwin, e]
      omega

theorem scatterAdd_apply (x : FVec Ideal S4096 .f32) (w : IVec S8192x1 32) (u : FVec Ideal S8192 .f32) (j : S4096.Idx) :
    (Host.scatterAdd scatter_S4096_S8192x1_S8192_n_0_0_1 x w u j : EReal)
      = x j + ∑ i ∈ Finset.univ.filter (fun i => scatter_S4096_S8192x1_S8192_n_0_0_1.resultIdx? i w = some j), (u i : EReal) := rfl

theorem zeros_apply (j : S4096.Idx) :
    (broadcastInDim S4096 ![] bcast_S_S4096 (constant (F := Ideal) S_ .f32 0x00000000#32) j : EReal) = 0 :=
  (Routing.bc0 _ _ _).trans Ideal.ofBits_zero_f32
theorem ones_apply (i : S8192.Idx) :
    (broadcastInDim S8192 ![] bcast_S_S8192 (constant (F := Ideal) S_ .f32 0x3F800000#32) i : EReal) = 1 :=
  (Routing.bc0 _ _ _).trans ofBits_one

theorem hist_apply (w : IVec S8192x1 32) (b : Fin 8192 → Fin 4096) (h : ∀ n, w (ix2 n 0) = wd (b n)) (j : Fin 4096) :
    (R.hist (F := Ideal) w (ix1 j) : EReal) = hits b j := by
  unfold R.hist hits
  refine (scatterAdd_apply _ w _ (ix1 j)).trans ?_
  rw [zeros_apply, zero_add, Finset.sum_filter, sum_idx1]
  refine Finset.sum_congr rfl fun n _ => ?_
  rw [ones_apply]
  refine if_congr ?_ rfl rfl
  rw [lands, h, wd_toInt]
  exact ⟨fun e => Fin.ext (by omega), fun e => by rw [e]⟩

theorem perp_apply (x : FVec Ideal S4096 .f32) (i : S_.Idx) :
    (R.perp (R.probs x) i : EReal) = plex fun j => x (ix1 j) := by
  have hp : ∀ j : Fin 4096, (R.probs x (ix1 j) : EReal) = x (ix1 j) * ((1 / 8192 : ℝ) : EReal) := fun j => by
    unfold R.probs
    refine (congrArg (Ideal.div (x (ix1 j))) ((Routing.bc0 _ _ _).trans ofBits_rows)).trans ?_
    exact Ideal.div_coe (by norm_num) _
  unfold R.perp plex
  generalize R.probs x = p at hp ⊢
  refine congrArg Ideal.exp (congrArg Neg.neg ?_)
  refine (Ideal.hostReduceAdd_total reducesTo_S4096_S_d0 (fun b => b.elim0) _ (Ideal.ofBits .f32 0x00000000#32) i).trans ?_
  rw [Ideal.ofBits_zero_f32, zero_add]
  refine (sum_idx1 _).trans (Finset.sum_congr rfl fun j _ => ?_)
  show p (ix1 j) * Ideal.log (p (ix1 j) + broadcastInDim S4096 ![] bcast_S_S4096 (constant (F := Ideal) S_ .f32 0x2EDBE6FF#32) (ix1 j)) = _
  rw [hp j, show (broadcastInDim S4096 ![] bcast_S_S4096 (constant (F := Ideal) S_ .f32 0x2EDBE6FF#32) (ix1 j) : EReal) = tiny from Routing.bc0 _ _ _]

end Reference

/-! ## Both -/

section Both

variable (m : (ℓ : Loc KernelIdeal.nD KernelIdeal.τ KernelIdeal.sig) → Buf (Elt Ideal) ℓ) (d : Dev KernelIdeal.nD)
  (m' : (ℓ : Loc ReferenceIdeal.nD ReferenceIdeal.τ ReferenceIdeal.sig) → Buf (Elt Ideal) ℓ)
  (hZ : R.argZ m' d = argZ m d) (hE : R.argE m' d = argE m d)
include hZ hE

/-- Result 4. -/
theorem perp_eq (i : KernelIdeal.S_.Idx) :
    (R.perp (R.probs (R.hist (F := Ideal) (R.wrapped (R.idxs m' d)))) i : EReal)
      = shapeCast KernelIdeal.S_ (KernelIdeal.Gen.k0_pay4 (F := Ideal) (cntAt (F := Ideal) (entry (W1 m)) d 32)) KernelIdeal.Gen.shapeCasts_S1x1_S_ i := by
  refine (perp_apply _ i).trans ?_
  refine Eq.trans ?_ (pay4_apply (cntAt (F := Ideal) (entry (W1 m)) d 32) _).symm
  refine congrArg plex (funext fun j => ?_)
  rw [cnt_total]
  exact hist_apply _ _ (fun n => wrapped_apply (R.idxs m' d) _ (fun n => idxs_near m d m' hZ hE n) n) j

end Both

end Cert.Proof

end
-- ==== Proof.Loss.lean ====
/-
  The third result: the kernel adds up the least distances, the reference the squared differences from the rows taken. With
  finite arguments the two sums are one.
-/
module

public import proofs.«01_k».proof.Proof.Count

@[expose] public section

noncomputable section

namespace Cert.Proof

open Idealize.ShloMosaic Idealize.ShloMosaic.TcCoe

theorem two_eq : two = ((2 : ℝ) : EReal) := by
  unfold two
  simp [Ideal.ofBits, Ideal.ieee, -EReal.coe_mul]
  try norm_num

/-- The sum of reals is the sum of what they are as extended reals. -/
theorem coe_sum' {ι : Type} (s : Finset ι) (f : ι → ℝ) : ∑ i ∈ s, (f i : EReal) = ((∑ i ∈ s, f i : ℝ) : EReal) :=
  (map_sum (⟨⟨fun x : ℝ => (x : EReal), EReal.coe_zero⟩, EReal.coe_add⟩ : ℝ →+ EReal) f s).symm

/-- With finite entries, the expanded distance is the sum of the squared differences. -/
theorem dist2_expand (Z : RowsT) (E : TableT) (hZ : ∀ i, Z i ≠ ⊤ ∧ Z i ≠ ⊥) (hE : ∀ i, E i ≠ ⊤ ∧ E i ≠ ⊥) (n : Fin 8192) (j : Fin 4096) :
    dist2 Z E n j = ∑ k : Fin 64, (Z (ix2 n k) - E (ix2 j k)) * (Z (ix2 n k) - E (ix2 j k)) := by
  obtain ⟨z, rfl⟩ : ∃ z : (⟨2, ![8192, 64]⟩ : Shape).Idx → ℝ, Z = fun i => (z i : EReal) :=
    ⟨fun i => (Z i).toReal, funext fun i => (EReal.coe_toReal (hZ i).1 (hZ i).2).symm⟩
  obtain ⟨e, rfl⟩ : ∃ e : (⟨2, ![4096, 64]⟩ : Shape).Idx → ℝ, E = fun i => (e i : EReal) :=
    ⟨fun i => (E i).toReal, funext fun i => (EReal.coe_toReal (hE i).1 (hE i).2).symm⟩
  unfold dist2
  rw [two_eq]
  simp only [← EReal.coe_mul, ← EReal.coe_sub, coe_sum', ← EReal.coe_add]
  refine congrArg _ ?_
  rw [← Finset.sum_sub_distrib, ← Finset.sum_add_distrib]
  exact Finset.sum_congr rfl fun k _ => by ring

/-! ## The kernel's -/

section Kernel
open Cert.KernelIdeal Cert.KernelIdeal.Gen

theorem pay2_apply (v : FVec Ideal S256x1 .f32) (a : FVec Ideal S1x1 .f32) :
    (k0_pay2 (F := Ideal) v a (ix2 0 0) : EReal) = a (ix2 0 0) + ∑ r : Fin 256, (v (ix2 r 0) : EReal) := by
  unfold k0_pay2
  simp only [shapeCast_self]
  refine congrArg (HAdd.hAdd (a (ix2 0 0) : EReal)) ?_
  refine (shapeCast_apply _ _ _ (ix1 0) ?_).trans ?_
  · rw [Shape.rowMajor_val_one, Shape.rowMajor_val_three]
    rfl
  refine (Ideal.multiReduction_add_total _ _ reduces_S1x256x1_S1 (fun b => by match b with | ⟨0, _⟩ => rfl) (.inl rfl) rfl (ix1 0)).trans ?_
  refine (sum_idx3 _).trans ?_
  rw [Fin.sum_univ_one]
  refine Finset.sum_congr rfl fun r _ => ?_
  rw [Fin.sum_univ_one]
  refine shapeCast_apply _ _ _ (ix2 r 0) ?_
  rw [Shape.rowMajor_val_two, Shape.rowMajor_val_three]
  show r.val * 1 + 0 = (0 * 256 + r.val) * 1 + 0
  omega

variable (m : (ℓ : Loc nD τ sig) → Buf (Elt Ideal) ℓ) (d : Dev nD)

/-- The block's least distances. -/
theorem block_least (t : Fin cfg0.N) (r : Fin 256) :
    (k0_pay8 (F := Ideal) (dist (entry (W1 m)) d t) (ix2 r 0) : EReal)
      = dist2 (zRows m d) (argE m d) (row t r) (near (zRows m d) (argE m d) (row t r)) := by
  have hf : (fun k => (dist (F := Ideal) (entry (W1 m)) d t (ix2 r k) : EReal)) = dist2 (zRows m d) (argE m d) (row t r) :=
    funext fun k => dist_apply m d t r k
  rw [pay8_argm, dist_apply, hf]
  rfl

theorem sum_total :
    (sumAt (F := Ideal) (entry (W1 m)) d 32 (ix2 0 0) : EReal)
      = ∑ n : Fin 8192, dist2 (zRows m d) (argE m d) n (near (zRows m d) (argE m d) n) := by
  rw [← sum_blocks]
  refine running (fun n => (sumAt (F := Ideal) (entry (W1 m)) d n (ix2 0 0) : EReal)) _ ?_ fun t => ?_
  · show (k0_pay6 (F := Ideal) (ix2 0 0) : EReal) = 0
    unfold k0_pay6
    simp only [shapeCast_self]
    exact Ideal.ofBits_zero_f32
  · show (sumAt (F := Ideal) (entry (W1 m)) d (t.val + 1) (ix2 0 0) : EReal) = _
    rw [sumAt_succ (F := Ideal)]
    refine (pay2_apply _ _).trans (congrArg (HAdd.hAdd (sumAt (F := Ideal) (entry (W1 m)) d t.val (ix2 0 0) : EReal)) ?_)
    exact Finset.sum_congr rfl fun r _ => block_least m d t r

theorem pay3_apply (v : FVec Ideal S1x1 .f32) (i : S1x1.Idx) :
    (k0_pay3 (F := Ideal) v i : EReal) = Ideal.ofBits .f32 0x3E800000#32 * Ideal.div (v (ix2 0 0)) (Ideal.ofBits .f32 0x49000000#32) := by
  obtain rfl : i = ix2 0 0 := by
    rw [← ix2_eta i]
    exact congr (congrArg ix2 (Subsingleton.elim (α := Fin 1) _ _)) (Subsingleton.elim (α := Fin 1) _ _)
  rfl

end Kernel

/-! ## The reference's -/

section Reference
open Cert.ReferenceIdeal Cert.ReferenceIdeal.Gen

theorem meanSq_apply (Z Q : FVec Ideal S8192x64 .f32) (i : S_.Idx) :
    (R.meanSq Z Q i : EReal)
      = Ideal.div (∑ n : Fin 8192, ∑ k : Fin 64, (Z (ix2 n k) - Q (ix2 n k) : EReal) * (Z (ix2 n k) - Q (ix2 n k))) (Ideal.ofBits .f32 0x49000000#32) := by
  unfold R.meanSq
  refine congrArg (fun x => Ideal.div x (Ideal.ofBits .f32 0x49000000#32)) ?_
  refine (Ideal.hostReduceAdd_total reducesTo_S8192x64_S_d0_1 (fun b => b.elim0) _ (Ideal.ofBits .f32 0x00000000#32) i).trans ?_
  rw [Ideal.ofBits_zero_f32, zero_add]
  exact sum_idx2 _

end Reference

/-! ## Both -/

section Both

variable (m : (ℓ : Loc KernelIdeal.nD KernelIdeal.τ KernelIdeal.sig) → Buf (Elt Ideal) ℓ) (d : Dev KernelIdeal.nD)
  (m' : (ℓ : Loc ReferenceIdeal.nD ReferenceIdeal.τ ReferenceIdeal.sig) → Buf (Elt Ideal) ℓ)
  (hZ : R.argZ m' d = argZ m d) (hE : R.argE m' d = argE m d)
  (fZ : ∀ i, (argZ m d i : EReal) ≠ ⊤ ∧ (argZ m d i : EReal) ≠ ⊥) (fE : ∀ i, (argE m d i : EReal) ≠ ⊤ ∧ (argE m d i : EReal) ≠ ⊥)
include hZ hE fZ fE

/-- Result 3. -/
theorem loss_eq (i : KernelIdeal.S_.Idx) :
    (mulf (constant (F := Ideal) ReferenceIdeal.S_ .f32 0x3E800000#32)
        (R.meanSq (F := Ideal) (R.zRows m' d) (R.taken (R.argE m' d) (R.wrapped (R.idxs m' d)))) i : EReal)
      = shapeCast KernelIdeal.S_ (KernelIdeal.Gen.k0_pay3 (F := Ideal) (sumAt (F := Ideal) (entry (W1 m)) d 32)) KernelIdeal.Gen.shapeCasts_S1x1_S_ i := by
  refine Eq.trans ?_ (pay3_apply (sumAt (F := Ideal) (entry (W1 m)) d 32) _).symm
  refine congrArg (HMul.hMul (Ideal.ofBits .f32 0x3E800000#32)) ?_
  refine (meanSq_apply _ _ i).trans (congrArg (fun x => Ideal.div x (Ideal.ofBits .f32 0x49000000#32)) ?_)
  rw [sum_total]
  refine Finset.sum_congr rfl fun n _ => ?_
  rw [dist2_expand (zRows m d) (argE m d) (fun i => fZ _) fE]
  refine Finset.sum_congr rfl fun k _ => ?_
  rw [taken_eq m d m' hZ hE, zRows_eq m d m' hZ, rowsOf_apply]

end Both

end Cert.Proof

end
-- ==== Proof.Values.lean ====
/-
  The value claim: from memories that agree on finite arguments, the kernel and the reference end with the same four results.
-/
module

public import proofs.«01_k».proof.Proof.Loss
public import proofs.«01_k».proof.Proof.Pre

@[expose] public section

noncomputable section

namespace Cert.Proof

open Idealize.ShloMosaic Idealize.ShloMosaic.TcCoe Idealize.ShloMosaic.StableHlo Idealize.SL.Sem

variable (m : (ℓ : Loc KernelIdeal.nD KernelIdeal.τ KernelIdeal.sig) → Buf (Elt Ideal) ℓ) (d : Dev KernelIdeal.nD)
  (m' : (ℓ : Loc ReferenceIdeal.nD ReferenceIdeal.τ ReferenceIdeal.sig) → Buf (Elt Ideal) ℓ)

section
variable (hZ : R.argZ m' d = argZ m d) (hE : R.argE m' d = argE m d)
include hZ hE

theorem result1 : R.U8 m' d (Proc.devRef .tc ReferenceIdeal.main_v41) = W5 m d (Proc.devRef .tc KernelIdeal.main_v16) := by
  refine (R.U8_v41 m' d).trans (Eq.trans ?_ (W5_v16 m d).symm)
  rw [taken_eq m d m' hZ hE, zRows_eq m d m' hZ]
  rfl

theorem result2 : R.U8 m' d (Proc.devRef .tc ReferenceIdeal.main_v42) = W5 m d (Proc.devRef .tc KernelIdeal.main_v17) := by
  refine (R.U8_v42 m' d).trans (Eq.trans ?_ (W5_v17 m d).symm)
  rw [idxs_eq m d m' hZ hE]

theorem result4 : R.U8 m' d (Proc.devRef .tc ReferenceIdeal.main_v40) = W5 m d (Proc.devRef .tc KernelIdeal.main_v19) :=
  (R.U8_v40 m' d).trans (Eq.trans (funext fun i => perp_eq m d m' hZ hE i) (W5_v19 m d).symm)

theorem result3 (fZ : ∀ i, (argZ m d i : EReal) ≠ ⊤ ∧ (argZ m d i : EReal) ≠ ⊥) (fE : ∀ i, (argE m d i : EReal) ≠ ⊤ ∧ (argE m d i : EReal) ≠ ⊥) :
    R.U8 m' d (Proc.devRef .tc ReferenceIdeal.main_v43) = W5 m d (Proc.devRef .tc KernelIdeal.main_v18) :=
  (R.U8_v43 m' d).trans (Eq.trans (funext fun i => loss_eq m d m' hZ hE fZ fE i) (W5_v18 m d).symm)

end

theorem values (hKernelIdeal : Cert.KernelIdeal.Facts) (hReferenceIdeal : Cert.ReferenceIdeal.Facts) (hPre : Cert.Pre_finite_arguments.Facts) :
    Cert.algebraic_KernelIdeal_ReferenceIdeal_pre_finite_arguments (hKernelIdeal := hKernelIdeal) (hReferenceIdeal := hReferenceIdeal)
      (hPre_finite_arguments := hPre) := by
  intro m g m' g' hp ha
  have hf : ∀ c, _ := fun c => Finite.decode (hf := hPre) _ _ (hp c)
  refine ⟨fun c => W5 m c (Proc.devRef .tc KernelIdeal.main_v16), fun c => W5 m c (Proc.devRef .tc KernelIdeal.main_v17),
    fun c => W5 m c (Proc.devRef .tc KernelIdeal.main_v18), fun c => W5 m c (Proc.devRef .tc KernelIdeal.main_v19), ?_, ?_⟩
  · refine (θ_run _ _ _).mono (fun r h c => ?_) (run_kernel m g)
    exact ⟨QC_at h c _ (by decide), QC_at h c _ (by decide), QC_at h c _ (by decide), QC_at h c _ (by decide),
      (QC_at h c KernelIdeal.main_arg0 (by decide)).trans (W5_arg0 m c), (QC_at h c KernelIdeal.main_arg1 (by decide)).trans (W5_arg1 m c)⟩
  · refine (θ_run _ _ _).mono (fun r h c => ?_) (R.run_main (F := Ideal) m' g')
    exact ⟨(h.1 c _).trans (result1 m c m' (ha c).1 (ha c).2), (h.1 c _).trans (result2 m c m' (ha c).1 (ha c).2),
      (h.1 c _).trans (result3 m c m' (ha c).1 (ha c).2 (hf c).1 (hf c).2), (h.1 c _).trans (result4 m c m' (ha c).1 (ha c).2),
      (h.1 c _).trans (R.U8_arg0 m' c), (h.1 c _).trans (R.U8_arg1 m' c)⟩

end Cert.Proof

end
-- ==== Proof.lean ====
module

public import proofs.«01_k».proof.Defs
public import proofs.«01_k».proof.Proof.Gen.KernelIdeal
public import proofs.«01_k».proof.Proof.Gen.ReferenceIdeal
public import proofs.«01_k».proof.Proof.Frame
public import proofs.«01_k».proof.Proof.Ref
public import proofs.«01_k».proof.Proof.Pre
public import proofs.«01_k».proof.Proof.Values

@[expose] public section

noncomputable section

namespace Cert.Proof

open Idealize.ShloMosaic Idealize.SL.Sem

theorem claim : Cert.Claim :=
  ⟨Cert.KernelIdeal.Gen.facts, Cert.ReferenceIdeal.Gen.facts, Finite.facts, fun m g _ => frame_kernel m g, fun m g _ => frame_kernel m g,
    fun m g _ => R.frame_run m g, fun m g _ => R.frame_run m g, values _ _ _⟩

end Cert.Proof

end
